-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x1024 .f32) (main_arg2 : FVec F S1x2048x64x128 .f32) (main_arg3 : FVec F S1x2048x64x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .f32) (main_arg1 : FVec F S1024x8192 .f32) (main_arg2 : FVec F S1x2048x64x128 .f32) (main_arg3 : FVec F S1x2048x64x128 .f32) (main_arg4 : FVec F S8192x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .f32 := Host.absf main_arg2
  let main_cst_2 : FVec F S_ .f32 := constant S_ .f32 0x7F800000#32
  let main_v10 : FVec F S1x2048x64x128 .f32 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩
abbrev S2048x64x128 : Shape := ⟨3, ![2048, 64, 128]⟩
abbrev S2048x8x128 : Shape := ⟨3, ![2048, 8, 128]⟩
abbrev S8x2048x128 : Shape := ⟨3, ![8, 2048, 128]⟩
abbrev S2048x1024 : Shape := ⟨2, ![2048, 1024]⟩
abbrev S1024x128 : Shape := ⟨2, ![1024, 128]⟩
abbrev S1x2048x128 : Shape := ⟨3, ![1, 2048, 128]⟩
abbrev S128x1024 : Shape := ⟨2, ![128, 1024]⟩
abbrev S2048x128 : Shape := ⟨2, ![2048, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S1792x1024 : Shape := ⟨2, ![1792, 1024]⟩
abbrev S2x3 : Shape := ⟨2, ![2, 3]⟩
abbrev S1x1 : Shape := ⟨2, ![1, 1]⟩
abbrev S512x1024 : Shape := ⟨2, ![512, 1024]⟩
abbrev S256x1024 : Shape := ⟨2, ![256, 1024]⟩

abbrev nBuf : Space → Nat
  | .hbm => 44
  | .vmem => 15
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x64x128, .f32⟩
  | .hbm, ⟨3, _⟩ => ⟨S1x2048x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x64x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048x8x128, .f32⟩
  | .hbm, ⟨22, _⟩ => ⟨S8x2048x128, .f32⟩
  | .hbm, ⟨23, _⟩ => ⟨S8x2048x128, .bf16⟩
  | .hbm, ⟨24, _⟩ => ⟨S2048x64x128, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2048x8x128, .f32⟩
  | .hbm, ⟨35, _⟩ => ⟨S8x2048x128, .f32⟩
  | .hbm, ⟨36, _⟩ => ⟨S8x2048x128, .bf16⟩
  | .hbm, ⟨37, _⟩ => ⟨S2048x1024, .f32⟩
  | .hbm, ⟨38, _⟩ => ⟨S2048x1024, .bf16⟩
  | .hbm, ⟨39, _⟩ => ⟨S1024x1024, .bf16⟩
  | .hbm, ⟨40, _⟩ => ⟨S1024x1024, .bf16⟩
  | .hbm, ⟨41, _⟩ => ⟨S2048x1024, .f32⟩
  | .hbm, ⟨42, _⟩ => ⟨S2048x1024, .f32⟩
  | .hbm, ⟨43, _⟩ => ⟨S1x2048x1024, .f32⟩
  | .local _ .vmem, ⟨0, _⟩ => ⟨S2048x1024, .bf16⟩
  | .local _ .vmem, ⟨1, _⟩ => ⟨S1024x128, .bf16⟩
  | .local _ .vmem, ⟨2, _⟩ => ⟨S1024x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S128x1024, .bf16⟩
  | .local _ .vmem, ⟨8, _⟩ => ⟨S128x1024, .bf16⟩
  | .local _ .vmem, ⟨9, _⟩ => ⟨S2048x1024, .f32⟩
  | .local _ .vmem, ⟨10, _⟩ => ⟨S2048x128, .f32⟩
  | .local _ .vmem, ⟨11, _⟩ => ⟨S2048x128, .f32⟩
  | .local _ .vmem, ⟨12, _⟩ => ⟨S2048x1024, .f32⟩
  | .local _ .vmem, ⟨13, _⟩ => ⟨S2048x1024, .f32⟩
  | .local _ .vmem, ⟨14, _⟩ => ⟨S1792x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_c_9 : Ref sig .tc := ⟨.hbm, 32, rfl⟩
abbrev main_c_10 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem1_0 : DmaSem sig := 11
abbrev barrier0 : Sem sig := 0

abbrev nD : Nat := 8
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v27 : BitVec 32 := Scalar.muli arg9 c256_i32
  let v28 : Index := Scalar.indexCast v27
  let c0_18 : Index := 0#32
  ![v28.toNat, 0]
def k0_off2 (k0_t1 : Fin k0_t1_loop.trips) : Fin 3 → Nat :=
  let c0_19 : Index := 0#32
  let c12_i32 : BitVec 32 := 12#32
  let c0_i32_17 : BitVec 32 := 0#32
  let c0_i32 : BitVec 32 := 0#32
  let c1_i32 : BitVec 32 := 1#32
  let arg9 : BitVec 32 := Scf.iv c0_i32 c1_i32 k0_t1
  let c2_i32 : BitVec 32 := 2#32
  let v22 : BitVec 32 := Scalar.muli arg9 c2_i32
  let c1_i32_16 : BitVec 32 := 1#32
  let v23 : BitVec 32 := Scalar.subi v22 c1_i32_16
  let v24 : BitVec 32 := Scalar.maxsi c0_i32_17 v23
  let v25 : BitVec 32 := Scalar.minsi c12_i32 v24
  let c128_i32 : BitVec 32 := 128#32
  let v26 : BitVec 32 := Scalar.muli v25 c128_i32
  let v31 : Index := Scalar.indexCast v26
  let c0_20 : Index := 0#32
  ![0, v31.toNat, 0]
def k0_cond1 (i : grid0.Coords) : BitVec 1 :=
  let arg0 : BitVec 32 := BitVec.ofNat 32 (i 0).val
  let c0_i32_12 : BitVec 32 := 0#32
  let v16 : BitVec 1 := Scalar.cmpi .eq arg0 c0_i32_12
  let v17 : BitVec 32 := Scalar.extui v16
  let c0_i32_13 : BitVec 32 := 0#32
  let v18 : BitVec 1 := Scalar.cmpi .ne v17 c0_i32_13
  v18

def k0_cond2 (i : grid0.Coords) : BitVec 1 :=
  let arg0 : BitVec 32 := BitVec.ofNat 32 (i 0).val
  let c0_i32_14 : BitVec 32 := 0#32
  let v19 : BitVec 1 := Scalar.cmpi .ne arg0 c0_i32_14
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := .none

def k1_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_21 : BitVec 32 := 4#32
  let v57 : BitVec 32 := Scalar.muli v20 c4_i32_21
  let c4_i32 : BitVec 32 := 4#32
  let v3 : BitVec 32 := Scalar.remsi v2 c4_i32
  let c1_i32_22 : BitVec 32 := 1#32
  let v58 : BitVec 32 := Scalar.xori v3 c1_i32_22
  let v59 : BitVec 32 := Scalar.addi v57 v58
  let c1_i32_27 : BitVec 32 := 1#32
  let v66 : BitVec 32 := Scalar.muli v59 c1_i32_27
  let v67 : BitVec 32 := Scalar.addi c0_i32_28 v66
  v67.toNat
def k1_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_23 : BitVec 32 := 4#32
  let v60 : BitVec 32 := Scalar.muli v20 c4_i32_23
  let c3_i32 : BitVec 32 := 3#32
  let c4_i32 : BitVec 32 := 4#32
  let v3 : BitVec 32 := Scalar.remsi v2 c4_i32
  let v61 : BitVec 32 := Scalar.subi c3_i32 v3
  let v62 : BitVec 32 := Scalar.addi v60 v61
  let c1_i32_30 : BitVec 32 := 1#32
  let v68 : BitVec 32 := Scalar.muli v62 c1_i32_30
  let v69 : BitVec 32 := Scalar.addi c0_i32_31 v68
  v69.toNat
def k1_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v63 : BitVec 32 := Scalar.addi v2 c4_i32_24
  let c8_i32_25 : BitVec 32 := 8#32
  let v64 : BitVec 32 := Scalar.remsi v63 c8_i32_25
  let c1_i32_33 : BitVec 32 := 1#32
  let v70 : BitVec 32 := Scalar.muli v64 c1_i32_33
  let v71 : BitVec 32 := Scalar.addi c0_i32_34 v70
  v71.toNat
def k1_off1 (d0 : Dev nD) : Fin 2 → Nat :=
  let c0_i32_40 : BitVec 32 := 0#32
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v75 : BitVec 32 := Scalar.subi c1_i32_39 v39
  let c512_i32 : BitVec 32 := 512#32
  let v76 : BitVec 32 := Scalar.muli v75 c512_i32
  let v77 : BitVec 32 := Scalar.addi c0_i32_40 v76
  let c0_i32_51 : BitVec 32 := 0#32
  ![v77.toNat, 0]
def k1_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_21 : BitVec 32 := 4#32
  let v57 : BitVec 32 := Scalar.muli v20 c4_i32_21
  let c4_i32 : BitVec 32 := 4#32
  let v3 : BitVec 32 := Scalar.remsi v2 c4_i32
  let c1_i32_22 : BitVec 32 := 1#32
  let v58 : BitVec 32 := Scalar.xori v3 c1_i32_22
  let v59 : BitVec 32 := Scalar.addi v57 v58
  let c1_i32_47 : BitVec 32 := 1#32
  let v80 : BitVec 32 := Scalar.muli v59 c1_i32_47
  let v81 : BitVec 32 := Scalar.addi c0_i32_48 v80
  v81.toNat
def k1_off2 (d0 : Dev nD) : Fin 2 → Nat :=
  let c1024_i32 : BitVec 32 := 1024#32
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let v88 : BitVec 32 := Scalar.subi c1_i32_52 v56
  let c512_i32_53 : BitVec 32 := 512#32
  let v89 : BitVec 32 := Scalar.muli v88 c512_i32_53
  let v90 : BitVec 32 := Scalar.addi c1024_i32 v89
  let c0_i32_63 : BitVec 32 := 0#32
  ![v90.toNat, 0]
def k1_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_23 : BitVec 32 := 4#32
  let v60 : BitVec 32 := Scalar.muli v20 c4_i32_23
  let c3_i32 : BitVec 32 := 3#32
  let c4_i32 : BitVec 32 := 4#32
  let v3 : BitVec 32 := Scalar.remsi v2 c4_i32
  let v61 : BitVec 32 := Scalar.subi c3_i32 v3
  let v62 : BitVec 32 := Scalar.addi v60 v61
  let c1_i32_60 : BitVec 32 := 1#32
  let v93 : BitVec 32 := Scalar.muli v62 c1_i32_60
  let v94 : BitVec 32 := Scalar.addi c0_i32_61 v93
  v94.toNat
def k1_off3 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let v107 : Index := Scalar.indexCast v79
  let c0_73 : Index := 0#32
  ![v107.toNat, 0]
def k1_off4 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let v124 : Index := Scalar.indexCast v92
  let c0_94 : Index := 0#32
  ![v124.toNat, 0]
def k1_off5 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let c1_i32_105 : BitVec 32 := 1#32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let v135 : BitVec 32 := Scalar.subi c1_i32_105 v56
  let c256_i32 : BitVec 32 := 256#32
  let v136 : BitVec 32 := Scalar.muli v135 c256_i32
  let v137 : BitVec 32 := Scalar.addi v79 v136
  let c0_i32_115 : BitVec 32 := 0#32
  ![v137.toNat, 0]
def k1_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_23 : BitVec 32 := 4#32
  let v60 : BitVec 32 := Scalar.muli v20 c4_i32_23
  let c3_i32 : BitVec 32 := 3#32
  let c4_i32 : BitVec 32 := 4#32
  let v3 : BitVec 32 := Scalar.remsi v2 c4_i32
  let v61 : BitVec 32 := Scalar.subi c3_i32 v3
  let v62 : BitVec 32 := Scalar.addi v60 v61
  let c1_i32_111 : BitVec 32 := 1#32
  let v140 : BitVec 32 := Scalar.muli v62 c1_i32_111
  let v141 : BitVec 32 := Scalar.addi c0_i32_112 v140
  v141.toNat
def k1_off6 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let c1_i32_116 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v148 : BitVec 32 := Scalar.subi c1_i32_116 v20
  let c256_i32_117 : BitVec 32 := 256#32
  let v149 : BitVec 32 := Scalar.muli v148 c256_i32_117
  let v150 : BitVec 32 := Scalar.addi v92 v149
  let c0_i32_126 : BitVec 32 := 0#32
  ![v150.toNat, 0]
def k1_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v63 : BitVec 32 := Scalar.addi v2 c4_i32_24
  let c8_i32_25 : BitVec 32 := 8#32
  let v64 : BitVec 32 := Scalar.remsi v63 c8_i32_25
  let c1_i32_123 : BitVec 32 := 1#32
  let v153 : BitVec 32 := Scalar.muli v64 c1_i32_123
  let v154 : BitVec 32 := Scalar.addi c0_i32_124 v153
  v154.toNat
def k1_off7 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c256_i32_106 : BitVec 32 := 256#32
  let v138 : BitVec 32 := Scalar.muli v56 c256_i32_106
  let v139 : BitVec 32 := Scalar.addi v79 v138
  let v167 : Index := Scalar.indexCast v139
  let c0_136 : Index := 0#32
  ![v167.toNat, 0]
def k1_off8 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_118 : BitVec 32 := 256#32
  let v151 : BitVec 32 := Scalar.muli v20 c256_i32_118
  let v152 : BitVec 32 := Scalar.addi v92 v151
  let v184 : Index := Scalar.indexCast v152
  let c0_156 : Index := 0#32
  ![v184.toNat, 0]
def k1_off9 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c256_i32_106 : BitVec 32 := 256#32
  let v138 : BitVec 32 := Scalar.muli v56 c256_i32_106
  let v139 : BitVec 32 := Scalar.addi v79 v138
  let c1_i32_167 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v195 : BitVec 32 := Scalar.subi c1_i32_167 v20
  let c128_i32 : BitVec 32 := 128#32
  let v196 : BitVec 32 := Scalar.muli v195 c128_i32
  let v197 : BitVec 32 := Scalar.addi v139 v196
  let c0_i32_176 : BitVec 32 := 0#32
  ![v197.toNat, 0]
def k1_dev8 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v63 : BitVec 32 := Scalar.addi v2 c4_i32_24
  let c8_i32_25 : BitVec 32 := 8#32
  let v64 : BitVec 32 := Scalar.remsi v63 c8_i32_25
  let c1_i32_173 : BitVec 32 := 1#32
  let v200 : BitVec 32 := Scalar.muli v64 c1_i32_173
  let v201 : BitVec 32 := Scalar.addi c0_i32_174 v200
  v201.toNat
def k1_off10 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_118 : BitVec 32 := 256#32
  let v151 : BitVec 32 := Scalar.muli v20 c256_i32_118
  let v152 : BitVec 32 := Scalar.addi v92 v151
  let c1_i32_177 : BitVec 32 := 1#32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let v208 : BitVec 32 := Scalar.subi c1_i32_177 v39
  let c128_i32_178 : BitVec 32 := 128#32
  let v209 : BitVec 32 := Scalar.muli v208 c128_i32_178
  let v210 : BitVec 32 := Scalar.addi v152 v209
  let c0_i32_187 : BitVec 32 := 0#32
  ![v210.toNat, 0]
def k1_dev9 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_21 : BitVec 32 := 4#32
  let v57 : BitVec 32 := Scalar.muli v20 c4_i32_21
  let c4_i32 : BitVec 32 := 4#32
  let v3 : BitVec 32 := Scalar.remsi v2 c4_i32
  let c1_i32_22 : BitVec 32 := 1#32
  let v58 : BitVec 32 := Scalar.xori v3 c1_i32_22
  let v59 : BitVec 32 := Scalar.addi v57 v58
  let c1_i32_184 : BitVec 32 := 1#32
  let v213 : BitVec 32 := Scalar.muli v59 c1_i32_184
  let v214 : BitVec 32 := Scalar.addi c0_i32_185 v213
  v214.toNat
def k1_off11 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c256_i32_106 : BitVec 32 := 256#32
  let v138 : BitVec 32 := Scalar.muli v56 c256_i32_106
  let v139 : BitVec 32 := Scalar.addi v79 v138
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c128_i32_168 : BitVec 32 := 128#32
  let v198 : BitVec 32 := Scalar.muli v20 c128_i32_168
  let v199 : BitVec 32 := Scalar.addi v139 v198
  let v227 : Index := Scalar.indexCast v199
  let c0_197 : Index := 0#32
  ![v227.toNat, 0]
def k1_off12 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_118 : BitVec 32 := 256#32
  let v151 : BitVec 32 := Scalar.muli v20 c256_i32_118
  let v152 : BitVec 32 := Scalar.addi v92 v151
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c128_i32_179 : BitVec 32 := 128#32
  let v211 : BitVec 32 := Scalar.muli v39 c128_i32_179
  let v212 : BitVec 32 := Scalar.addi v152 v211
  let v244 : Index := Scalar.indexCast v212
  let c0_217 : Index := 0#32
  ![v244.toNat, 0]
def k1_off13 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c256_i32_106 : BitVec 32 := 256#32
  let v138 : BitVec 32 := Scalar.muli v56 c256_i32_106
  let v139 : BitVec 32 := Scalar.addi v79 v138
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c128_i32_168 : BitVec 32 := 128#32
  let v198 : BitVec 32 := Scalar.muli v20 c128_i32_168
  let v199 : BitVec 32 := Scalar.addi v139 v198
  let c0_i32_234 : BitVec 32 := 0#32
  ![v199.toNat, 0]
def k1_dev10 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v63 : BitVec 32 := Scalar.addi v2 c4_i32_24
  let c8_i32_25 : BitVec 32 := 8#32
  let v64 : BitVec 32 := Scalar.remsi v63 c8_i32_25
  let c1_i32_232 : BitVec 32 := 1#32
  let v255 : BitVec 32 := Scalar.muli v64 c1_i32_232
  let v256 : BitVec 32 := Scalar.addi c0_i32_233 v255
  v256.toNat
def k1_off14 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_118 : BitVec 32 := 256#32
  let v151 : BitVec 32 := Scalar.muli v20 c256_i32_118
  let v152 : BitVec 32 := Scalar.addi v92 v151
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c128_i32_179 : BitVec 32 := 128#32
  let v211 : BitVec 32 := Scalar.muli v39 c128_i32_179
  let v212 : BitVec 32 := Scalar.addi v152 v211
  let c0_i32_242 : BitVec 32 := 0#32
  ![v212.toNat, 0]
def k1_dev11 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_21 : BitVec 32 := 4#32
  let v57 : BitVec 32 := Scalar.muli v20 c4_i32_21
  let c4_i32 : BitVec 32 := 4#32
  let v3 : BitVec 32 := Scalar.remsi v2 c4_i32
  let c1_i32_22 : BitVec 32 := 1#32
  let v58 : BitVec 32 := Scalar.xori v3 c1_i32_22
  let v59 : BitVec 32 := Scalar.addi v57 v58
  let c1_i32_240 : BitVec 32 := 1#32
  let v263 : BitVec 32 := Scalar.muli v59 c1_i32_240
  let v264 : BitVec 32 := Scalar.addi c0_i32_241 v263
  v264.toNat
def k1_off15 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c256_i32_106 : BitVec 32 := 256#32
  let v138 : BitVec 32 := Scalar.muli v56 c256_i32_106
  let v139 : BitVec 32 := Scalar.addi v79 v138
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c128_i32_168 : BitVec 32 := 128#32
  let v198 : BitVec 32 := Scalar.muli v20 c128_i32_168
  let v199 : BitVec 32 := Scalar.addi v139 v198
  let c128_i32_259 : BitVec 32 := 128#32
  let v281 : BitVec 32 := Scalar.muli v20 c128_i32_259
  let v282 : BitVec 32 := Scalar.subi v199 v281
  let c0_i32_282 : BitVec 32 := 0#32
  ![v282.toNat, 0]
def k1_dev12 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_23 : BitVec 32 := 4#32
  let v60 : BitVec 32 := Scalar.muli v20 c4_i32_23
  let c3_i32 : BitVec 32 := 3#32
  let c4_i32 : BitVec 32 := 4#32
  let v3 : BitVec 32 := Scalar.remsi v2 c4_i32
  let v61 : BitVec 32 := Scalar.subi c3_i32 v3
  let v62 : BitVec 32 := Scalar.addi v60 v61
  let c1_i32_280 : BitVec 32 := 1#32
  let v295 : BitVec 32 := Scalar.muli v62 c1_i32_280
  let v296 : BitVec 32 := Scalar.addi c0_i32_281 v295
  v296.toNat
def k1_off16 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_118 : BitVec 32 := 256#32
  let v151 : BitVec 32 := Scalar.muli v20 c256_i32_118
  let v152 : BitVec 32 := Scalar.addi v92 v151
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c128_i32_179 : BitVec 32 := 128#32
  let v211 : BitVec 32 := Scalar.muli v39 c128_i32_179
  let v212 : BitVec 32 := Scalar.addi v152 v211
  let c128_i32_275 : BitVec 32 := 128#32
  let v293 : BitVec 32 := Scalar.muli v39 c128_i32_275
  let v294 : BitVec 32 := Scalar.subi v212 v293
  let c0_i32_290 : BitVec 32 := 0#32
  ![v294.toNat, 0]
def k1_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v63 : BitVec 32 := Scalar.addi v2 c4_i32_24
  let c8_i32_25 : BitVec 32 := 8#32
  let v64 : BitVec 32 := Scalar.remsi v63 c8_i32_25
  let c1_i32_288 : BitVec 32 := 1#32
  let v303 : BitVec 32 := Scalar.muli v64 c1_i32_288
  let v304 : BitVec 32 := Scalar.addi c0_i32_289 v303
  v304.toNat
def k1_off17 (d0 : Dev nD) : Fin 2 → Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c512_i32_41 : BitVec 32 := 512#32
  let v78 : BitVec 32 := Scalar.muli v39 c512_i32_41
  let v79 : BitVec 32 := Scalar.addi c0_i32_42 v78
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c256_i32_106 : BitVec 32 := 256#32
  let v138 : BitVec 32 := Scalar.muli v56 c256_i32_106
  let v139 : BitVec 32 := Scalar.addi v79 v138
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c128_i32_168 : BitVec 32 := 128#32
  let v198 : BitVec 32 := Scalar.muli v20 c128_i32_168
  let v199 : BitVec 32 := Scalar.addi v139 v198
  let c128_i32_259 : BitVec 32 := 128#32
  let v281 : BitVec 32 := Scalar.muli v20 c128_i32_259
  let v282 : BitVec 32 := Scalar.subi v199 v281
  let c256_i32_307 : BitVec 32 := 256#32
  let v321 : BitVec 32 := Scalar.muli v56 c256_i32_307
  let v322 : BitVec 32 := Scalar.subi v282 v321
  let c0_i32_330 : BitVec 32 := 0#32
  ![v322.toNat, 0]
def k1_dev14 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_21 : BitVec 32 := 4#32
  let v57 : BitVec 32 := Scalar.muli v20 c4_i32_21
  let c4_i32 : BitVec 32 := 4#32
  let v3 : BitVec 32 := Scalar.remsi v2 c4_i32
  let c1_i32_22 : BitVec 32 := 1#32
  let v58 : BitVec 32 := Scalar.xori v3 c1_i32_22
  let v59 : BitVec 32 := Scalar.addi v57 v58
  let c1_i32_328 : BitVec 32 := 1#32
  let v335 : BitVec 32 := Scalar.muli v59 c1_i32_328
  let v336 : BitVec 32 := Scalar.addi c0_i32_329 v335
  v336.toNat
def k1_off18 (d0 : Dev nD) : Fin 2 → Nat :=
  let c1024_i32_55 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_15 : BitVec 32 := 0#32
  let v41 : BitVec 1 := Scalar.cmpi .sgt v3 c0_i32_15
  let v42 : BitVec 32 := Scalar.extui v41
  let c0_i32_16 : BitVec 32 := 0#32
  let v43 : BitVec 1 := Scalar.cmpi .slt v3 c0_i32_16
  let v44 : BitVec 32 := Scalar.extui v43
  let v45 : BitVec 32 := Scalar.subi v42 v44
  let c2_i32_14 : BitVec 32 := 2#32
  let c0_i32_17 : BitVec 32 := 0#32
  let v46 : BitVec 1 := Scalar.cmpi .sgt c2_i32_14 c0_i32_17
  let v47 : BitVec 32 := Scalar.extui v46
  let c0_i32_18 : BitVec 32 := 0#32
  let v48 : BitVec 1 := Scalar.cmpi .slt c2_i32_14 c0_i32_18
  let v49 : BitVec 32 := Scalar.extui v48
  let v50 : BitVec 32 := Scalar.subi v47 v49
  let v51 : BitVec 1 := Scalar.cmpi .ne v45 v50
  let v52 : BitVec 32 := Scalar.remsi v3 c2_i32_14
  let c0_i32_19 : BitVec 32 := 0#32
  let v53 : BitVec 1 := Scalar.cmpi .ne v52 c0_i32_19
  let v54 : BitVec 1 := Scalar.andi v51 v53
  let v40 : BitVec 32 := Scalar.divsi v3 c2_i32_14
  let c1_i32_20 : BitVec 32 := 1#32
  let v55 : BitVec 32 := Scalar.subi v40 c1_i32_20
  let v56 : BitVec 32 := Scalar.select v54 v55 v40
  let c512_i32_54 : BitVec 32 := 512#32
  let v91 : BitVec 32 := Scalar.muli v56 c512_i32_54
  let v92 : BitVec 32 := Scalar.addi c1024_i32_55 v91
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_118 : BitVec 32 := 256#32
  let v151 : BitVec 32 := Scalar.muli v20 c256_i32_118
  let v152 : BitVec 32 := Scalar.addi v92 v151
  let c1_i32_6 : BitVec 32 := 1#32
  let v21 : BitVec 32 := Scalar.addi v3 c1_i32_6
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32 : BitVec 32 := 2#32
  let c0_i32_9 : BitVec 32 := 0#32
  let v28 : BitVec 1 := Scalar.cmpi .sgt c2_i32 c0_i32_9
  let v29 : BitVec 32 := Scalar.extui v28
  let c0_i32_10 : BitVec 32 := 0#32
  let v30 : BitVec 1 := Scalar.cmpi .slt c2_i32 c0_i32_10
  let v31 : BitVec 32 := Scalar.extui v30
  let v32 : BitVec 32 := Scalar.subi v29 v31
  let v33 : BitVec 1 := Scalar.cmpi .ne v27 v32
  let v34 : BitVec 32 := Scalar.remsi v21 c2_i32
  let c0_i32_11 : BitVec 32 := 0#32
  let v35 : BitVec 1 := Scalar.cmpi .ne v34 c0_i32_11
  let v36 : BitVec 1 := Scalar.andi v33 v35
  let v22 : BitVec 32 := Scalar.divsi v21 c2_i32
  let c1_i32_12 : BitVec 32 := 1#32
  let v37 : BitVec 32 := Scalar.subi v22 c1_i32_12
  let v38 : BitVec 32 := Scalar.select v36 v37 v22
  let c2_i32_13 : BitVec 32 := 2#32
  let v39 : BitVec 32 := Scalar.remsi v38 c2_i32_13
  let c128_i32_179 : BitVec 32 := 128#32
  let v211 : BitVec 32 := Scalar.muli v39 c128_i32_179
  let v212 : BitVec 32 := Scalar.addi v152 v211
  let c128_i32_275 : BitVec 32 := 128#32
  let v293 : BitVec 32 := Scalar.muli v39 c128_i32_275
  let v294 : BitVec 32 := Scalar.subi v212 v293
  let c256_i32_323 : BitVec 32 := 256#32
  let v333 : BitVec 32 := Scalar.muli v20 c256_i32_323
  let v334 : BitVec 32 := Scalar.subi v294 v333
  let c0_i32_338 : BitVec 32 := 0#32
  ![v334.toNat, 0]
def k1_dev15 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_23 : BitVec 32 := 4#32
  let v60 : BitVec 32 := Scalar.muli v20 c4_i32_23
  let c3_i32 : BitVec 32 := 3#32
  let c4_i32 : BitVec 32 := 4#32
  let v3 : BitVec 32 := Scalar.remsi v2 c4_i32
  let v61 : BitVec 32 := Scalar.subi c3_i32 v3
  let v62 : BitVec 32 := Scalar.addi v60 v61
  let c1_i32_336 : BitVec 32 := 1#32
  let v343 : BitVec 32 := Scalar.muli v62 c1_i32_336
  let v344 : BitVec 32 := Scalar.addi c0_i32_337 v343
  v344.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x2048x64x128, .f32⟩
  | .hbm, ⟨3, _⟩ => ⟨S1x2048x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S1x64x2048x2048, .f32⟩
  | .hbm, ⟨19, _⟩ => ⟨S_, .f32⟩
  | .hbm, ⟨20, _⟩ => ⟨S1x64x2048x2048, .f32⟩
  | .hbm, ⟨21, _⟩ => ⟨S1x64x2048x2048, .f32⟩
  | .hbm, ⟨22, _⟩ => ⟨S1x1x2048x2048, .i1⟩
  | .hbm, ⟨23, _⟩ => ⟨S_, .f32⟩
  | .hbm, ⟨24, _⟩ => ⟨S_, .f32⟩
  | .hbm, ⟨25, _⟩ => ⟨S1x64x2048x2048, .i1⟩
  | .hbm, ⟨26, _⟩ => ⟨S1x64x2048x2048, .f32⟩
  | .hbm, ⟨27, _⟩ => ⟨S1x64x2048x2048, .f32⟩
  | .hbm, ⟨28, _⟩ => ⟨S_, .f32⟩
  | .hbm, ⟨29, _⟩ => ⟨S1x64x2048, .f32⟩
  | .hbm, ⟨30, _⟩ => ⟨S1x64x2048x1, .f32⟩
  | .hbm, ⟨31, _⟩ => ⟨S1x64x2048x2048, .f32⟩
  | .hbm, ⟨32, _⟩ => ⟨S1x64x2048x2048, .f32⟩
  | .hbm, ⟨33, _⟩ => ⟨S1x64x2048x2048, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x64x2048, .f32⟩
  | .hbm, ⟨39, _⟩ => ⟨S1x64x2048x1, .f32⟩
  | .hbm, ⟨40, _⟩ => ⟨S_, .f32⟩
  | .hbm, ⟨41, _⟩ => ⟨S_, .f32⟩
  | .hbm, ⟨42, _⟩ => ⟨S1x64x2048x1, .i1⟩
  | .hbm, ⟨43, _⟩ => ⟨S1x64x2048x1, .f32⟩
  | .hbm, ⟨44, _⟩ => ⟨S1x64x2048x1, .f32⟩
  | .hbm, ⟨45, _⟩ => ⟨S1x64x2048x2048, .f32⟩
  | .hbm, ⟨46, _⟩ => ⟨S1x64x2048x2048, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x64x2048x2048, .i1⟩
  | .hbm, ⟨51, _⟩ => ⟨S1x64x2048x2048, .f32⟩
  | .hbm, ⟨52, _⟩ => ⟨S1x64x2048x2048, .f32⟩
  | .hbm, ⟨53, _⟩ => ⟨S1x64x128x2048, .f32⟩
  | .hbm, ⟨54, _⟩ => ⟨S1x2048x64x128, .f32⟩
  | .hbm, ⟨55, _⟩ => ⟨S1x2048x8192, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Rows.lean ====
/-
# The butterfly's geometry: partners, row ranges, partial sums

Everything about the all-reduce that mentions no program. Eight devices sit on a cube; device `c`'s partner along
dimension `d` (`par d c`) flips one of its three bits (`bit d c`). The 2048 rows of a device's array are two halves; each
half goes through three stages, its dimensions in its own order, so there are six steps `j : Fin 6` (half `j / 3`, stage
`j % 3`). At step `j` device `c` holds the partial sums of a range of rows, sends one half of the range to its partner
(`xo j c`, `nr j` rows from there on) and keeps the other (`ko j c`), to which it adds what the partner sends. `acc h s P c`
is what `c` holds after `s` stages of half `h`, as a function on the whole array (meaningful on the rows kept so far).
-/
module

public import Idealize.ShloMosaic.Lib.Pipeline.Kit
public import Idealize.ShloMosaic.Lib.Tactic

@[expose] public section

namespace Cert.Butterfly

open Idealize.ShloMosaic

/-! ## Devices -/

/-- The partner of device `c` along dimension `d`. -/
def par (d : Fin 3) (c : Fin 8) : Fin 8 :=
  match d with
  | 0 => ![1, 0, 3, 2, 5, 4, 7, 6] c
  | 1 => ![3, 2, 1, 0, 7, 6, 5, 4] c
  | 2 => ![4, 5, 6, 7, 0, 1, 2, 3] c

/-- The bit of device `c` that dimension `d` flips. -/
def bit (d : Fin 3) (c : Fin 8) : ℕ :=
  match d with
  | 0 => ![0, 1, 1, 0, 0, 1, 1, 0] c
  | 1 => ![0, 0, 1, 1, 0, 0, 1, 1] c
  | 2 => ![0, 0, 0, 0, 1, 1, 1, 1] c

theorem par_par (d : Fin 3) (c : Fin 8) : par d (par d c) = c := by revert d c; decide

/-- A dimension's partners, as a permutation of the devices. -/
def parEquiv (d : Fin 3) : Fin 8 ≃ Fin 8 := ⟨par d, par d, par_par d, par_par d⟩

/-! ## The six steps -/

/-- The dimension of step `j`. -/
def dim (j : Fin 6) : Fin 3 := ![0, 1, 2, 1, 2, 0] j
/-- The half and the stage of step `j`. -/
def hf (j : Fin 6) : Fin 2 := ![0, 0, 0, 1, 1, 1] j
def st (j : Fin 6) : ℕ := ![0, 1, 2, 0, 1, 2] j
/-- The rows sent at step `j`, and where they land in the partner's landing buffer. -/
def nr (j : Fin 6) : ℕ := ![512, 256, 128, 512, 256, 128] j
def so (j : Fin 6) : ℕ := ![0, 512, 768, 896, 1408, 1664] j
/-- The partner of step `j`. -/
abbrev pr (j : Fin 6) (c : Fin 8) : Fin 8 := par (dim j) c
theorem pr_pr (j : Fin 6) (c : Fin 8) : pr j (pr j c) = c := par_par _ _

/-- The two steps along dimension `d`, one of each half. -/
def j0 (d : Fin 3) : Fin 6 := ![0, 1, 2] d
def j1 (d : Fin 3) : Fin 6 := ![5, 3, 4] d
theorem dim_j0 (d : Fin 3) : dim (j0 d) = d := by revert d; decide
theorem dim_j1 (d : Fin 3) : dim (j1 d) = d := by revert d; decide

/-- Where the range of step `j` begins on device `c`: the start of the half, or the rows kept at the step before. -/
def kp (j : Fin 6) (c : Fin 8) : ℕ :=
  match j with
  | 0 => 0
  | 1 => 512 * bit 0 c
  | 2 => 512 * bit 0 c + 256 * bit 1 c
  | 3 => 1024
  | 4 => 1024 + 512 * bit 1 c
  | 5 => 1024 + 512 * bit 1 c + 256 * bit 2 c
/-- The first row kept, and the first row sent. -/
def ko (j : Fin 6) (c : Fin 8) : ℕ := kp j c + nr j * bit (dim j) c
def xo (j : Fin 6) (c : Fin 8) : ℕ := kp j c + nr j * (1 - bit (dim j) c)

theorem kp_ko : ∀ c, kp 1 c = ko 0 c ∧ kp 2 c = ko 1 c ∧ kp 4 c = ko 3 c ∧ kp 5 c = ko 4 c := by decide
theorem xo_pr : ∀ j c, xo j (pr j c) = ko j c := by decide
theorem ko_pr : ∀ j c, ko j (pr j c) = xo j c := by decide
theorem kx_split : ∀ j c, (ko j c = kp j c ∧ xo j c = kp j c + nr j) ∨ (xo j c = kp j c ∧ ko j c = kp j c + nr j) := by decide
theorem ko_le : ∀ j c, ko j c + nr j ≤ 2048 := by decide
theorem xo_le : ∀ j c, xo j c + nr j ≤ 2048 := by decide
theorem so_le : ∀ j, so j + nr j ≤ 1792 := by decide

/-! ## Rows of a 2-dimensional array of 1024 columns -/

/-- An index of an array of `R` rows. -/
abbrev Ix (R : ℕ) : Type := (⟨2, ![R, 1024]⟩ : Shape).Idx

/-- The `n` rows from row `o` on. -/
def rows (R o n : ℕ) : Finset (Ix R) := Finset.univ.filter fun i => o ≤ (i 0).val ∧ (i 0).val < o + n

theorem mem_rows {R o n : ℕ} {i : Ix R} : i ∈ rows R o n ↔ o ≤ (i 0).val ∧ (i 0).val < o + n := by
  unfold rows; rw [Finset.mem_filter]; exact ⟨fun h => h.2, fun h => ⟨Finset.mem_univ _, h⟩⟩

theorem rows_all (R : ℕ) : rows R 0 R = Finset.univ := by
  ext i; rw [mem_rows]
  have : (i 0).val < R := (i 0).isLt
  constructor
  · intro _; exact Finset.mem_univ _
  · intro _; omega

theorem rows_disjoint {R o n o' n' : ℕ} (h : o + n ≤ o' ∨ o' + n' ≤ o) : Disjoint (rows R o n) (rows R o' n') := by
  rw [Finset.disjoint_left]; intro i h1 h2; rw [mem_rows] at h1 h2; omega

theorem rows_union {R k n a b : ℕ} (h : (a = k ∧ b = k + n) ∨ (b = k ∧ a = k + n)) :
    rows R k (n + n) = rows R a n ∪ rows R b n := by
  ext i; rw [Finset.mem_union, mem_rows, mem_rows, mem_rows]; omega

theorem rows_append {R k n n' : ℕ} : rows R k (n + n') = rows R k n ∪ rows R (k + n) n' := by
  ext i; rw [Finset.mem_union, mem_rows, mem_rows, mem_rows]; omega

/-- The elements of a unit-stride rectangle of whole rows. -/
theorem rect_set {R n o : ℕ} {off : Fin 2 → ℕ} (h : off = ![o, 0])
    (inb : ∀ a, off a + (![n, 1024] : Fin 2 → ℕ) a ≤ (⟨2, ![R, 1024]⟩ : Shape).size a) :
    (Rect.unit (s := ⟨2, ![R, 1024]⟩) off ![n, 1024] inb).set = rows R o n := by
  subst h
  ext i
  rw [LoadRect.mem_set, mem_rows]
  have h1 : (i 1).val < 1024 := (i 1).isLt
  constructor
  · intro hh
    obtain ⟨q, hq, e⟩ := hh 0
    have hq' : q < n := hq
    have e' : (i 0).val = o + 1 * q := e
    omega
  · intro hh a
    fin_cases a
    · refine ⟨(i 0).val - o, ?_, ?_⟩
      · show (i 0).val - o < n; omega
      · show (i 0).val = o + 1 * ((i 0).val - o); omega
    · refine ⟨(i 1).val, h1, ?_⟩
      show (i 1).val = 0 + 1 * (i 1).val; omega

/-! ## Partial sums -/

section Acc
variable {α ι : Type} (add : α → α → α)

/-- The dimension of stage `s` of half `h`. -/
def ord (h : Fin 2) (s : ℕ) : Fin 3 := if h = 0 then (if s = 0 then 0 else if s = 1 then 1 else 2) else (if s = 0 then 1 else if s = 1 then 2 else 0)

/-- What device `c` holds of half `h` after `s` stages: its own partial sum plus the partner's. -/
def acc (P : Fin 8 → ι → α) (h : Fin 2) : ℕ → Fin 8 → ι → α
  | 0 => P
  | s + 1 => fun c i => add (acc P h s c i) (acc P h s (par (ord h s) c) i)

/-- Before and after step `j`. -/
def pre (P : Fin 8 → ι → α) (j : Fin 6) : Fin 8 → ι → α := acc add P (hf j) (st j)
def post (P : Fin 8 → ι → α) (j : Fin 6) : Fin 8 → ι → α := acc add P (hf j) (st j + 1)

theorem ord_eq (j : Fin 6) : ord (hf j) (st j) = dim j := by revert j; decide

theorem post_eq (P : Fin 8 → ι → α) (j : Fin 6) (c : Fin 8) (i : ι) :
    post add P j c i = add (pre add P j c i) (pre add P j (pr j c) i) := by
  unfold post pre pr; rw [← ord_eq j]; rfl

theorem pre_zero (P : Fin 8 → ι → α) : pre add P 0 = P ∧ pre add P 3 = P := ⟨rfl, rfl⟩
theorem pre_succ (P : Fin 8 → ι → α) :
    pre add P 1 = post add P 0 ∧ pre add P 2 = post add P 1 ∧ pre add P 4 = post add P 3 ∧ pre add P 5 = post add P 4 :=
  ⟨rfl, rfl, rfl, rfl⟩

/-- The device that ends up with the complete sums of the 128-row block `b` of the array. -/
def owner (b : ℕ) : Fin 8 :=
  match b with
  | 0 => 0 | 1 => 4 | 2 => 3 | 3 => 7 | 4 => 1 | 5 => 5 | 6 => 2 | 7 => 6
  | 8 => 0 | 9 => 1 | 10 => 4 | 11 => 5 | 12 => 3 | 13 => 2 | 14 => 7 | _ => 6

/-- The reduced array: every row as its owner has it after the three stages. -/
def total (P : Fin 8 → Ix 2048 → α) : Ix 2048 → α := fun i =>
  if (i 0).val < 1024 then acc add P 0 3 (owner ((i 0).val / 128)) i else acc add P 1 3 (owner ((i 0).val / 128)) i

theorem ko_block : ∀ c, (ko 2 c = 128 * (ko 2 c / 128) ∧ ko 2 c / 128 < 8 ∧ owner (ko 2 c / 128) = c)
    ∧ (ko 5 c = 128 * (ko 5 c / 128) ∧ 8 ≤ ko 5 c / 128 ∧ owner (ko 5 c / 128) = c) := by decide

theorem post_two (P : Fin 8 → Ix 2048 → α) (c : Fin 8) : ∀ i ∈ rows 2048 (ko 2 c) 128, post add P 2 c i = total add P i := by
  intro i hi
  rw [mem_rows] at hi
  obtain ⟨⟨h1, h2, h3⟩, -⟩ := ko_block c
  have hb : (i 0).val / 128 = ko 2 c / 128 := by omega
  unfold total
  rw [if_pos (by omega), hb, h3]; rfl

theorem post_five (P : Fin 8 → Ix 2048 → α) (c : Fin 8) : ∀ i ∈ rows 2048 (ko 5 c) 128, post add P 5 c i = total add P i := by
  intro i hi
  rw [mem_rows] at hi
  obtain ⟨-, h1, h2, h3⟩ := ko_block c
  have hb : (i 0).val / 128 = ko 5 c / 128 := by omega
  unfold total
  rw [if_neg (by omega), hb, h3]; rfl

end Acc

/-- Rows `a, …, a + n - 1` of `g` are rows `b, …, b + n - 1` of `f`. -/
def Shift {α : Type} {R R' : ℕ} (a b n : ℕ) (g : Ix R → α) (f : Ix R' → α) : Prop :=
  ∀ (i : Ix R) (i' : Ix R'), a ≤ (i 0).val → (i 0).val < a + n → (i' 0).val + a = (i 0).val + b → (i' 1).val = (i 1).val → g i = f i'

end Cert.Butterfly

end
-- ==== Proof.KernelIdealProto.lean ====
/-
# The all-reduce kernel's protocol

The ghost state of the butterfly all-reduce, under the rounds library: which cells there are, what each one's single
round hands its owner, what every device owes at launch, and the levels that make each wait safe. Each device has its
barrier cell (three duties, one per partner: the partner's signal hands over the parts of the partner's landing buffer the
device sends into) and, for each of the six steps `j`, four transfer cells `dcell c k j`:

* `k = 0`, the send cell of step `j` of the reduce-scatter: hands back nothing — the rows sent travel with the landing;
* `k = 1`, its receive cell: the landing rows, holding the partner's partial sums, AND the partner's own rows they came from,
  so that the later all-gather may write the finished rows there without the partner's saying so again;
* `k = 2`, the send cell of the all-gather: the rows sent, back;
* `k = 3`, its receive cell: the rows given away at step `j`, finished.
-/
module

public import proofs.«01_k».proof.Proof.Rows
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Buffers and cells -/

/-- The device's result (held in its staging buffer through the kernel) and its landing buffer. -/
abbrev oM : Memref sig .tc .vmem S2048x1024 .f32 := Memref.whole cc1_stg1_0
abbrev cM : Memref sig .tc .vmem S1792x1024 .f32 := Memref.whole cc1_scratch0

/-- Rows `S` of device `c`'s result at contents `f`, and of its landing buffer. -/
def oPts (c : Dev nD) (S : Finset (Ix 2048)) (f : Ix 2048 → F .f32) : sProp 𝕄 :=
  (oM : Memref sig .tc .vmem S2048x1024 .f32).view.loc (c : Thread nD τ) ↦[S]{fullShare} f
def cPts (c : Dev nD) (S : Finset (Ix 1792)) (f : Ix 1792 → F .f32) : sProp 𝕄 :=
  (cM : Memref sig .tc .vmem S1792x1024 .f32).view.loc (c : Thread nD τ) ↦[S]{fullShare} f

instance oPts_storable (c : Dev nD) (S) (f : Ix 2048 → F .f32) : BI.Storable (upEmb : UEmb _ 𝕄) (oPts c S f) := by unfold oPts; infer_instance
instance cPts_storable (c : Dev nD) (S) (f : Ix 1792 → F .f32) : BI.Storable (upEmb : UEmb _ 𝕄) (cPts c S f) := by unfold cPts; infer_instance

/-- The runtime's barrier semaphore of collective id 0, one per TensorCore, not scoped to the kernel. -/
abbrev barS : Sem sig := (SemArray.scalar (sig.barrier 0 rfl) : Sems sig S_).sem
/-- The first of the kernel's own transfer semaphores; there are 24, four kinds of six. -/
abbrev base : ℕ := 12
def dsem (k : Fin 4) (j : Fin 6) : DmaSem sig := ⟨base + 6 * k.val + j.val, by have := k.isLt; have := j.isLt; show _ < 36; unfold base; omega⟩
/-- The kind and the step of a transfer semaphore. -/
def dk (q : DmaSem sig) : Fin 4 := ⟨(q.val - base) / 6 % 4, Nat.mod_lt _ (by decide)⟩
def dj (q : DmaSem sig) : Fin 6 := ⟨(q.val - base) % 6, Nat.mod_lt _ (by decide)⟩
theorem dk_dsem : ∀ k j, dk (dsem k j) = k := by decide
theorem dj_dsem : ∀ k j, dj (dsem k j) = j := by decide
theorem base_le_dsem (k : Fin 4) (j : Fin 6) : base ≤ (dsem k j).val := by unfold dsem; show base ≤ base + _ + _; omega

abbrev barCell (c : Dev nD) : GSem nD τ sig := ((c : Thread nD τ), .reg barS)
abbrev dcell (c : Dev nD) (k : Fin 4) (j : Fin 6) : GSem nD τ sig := ((c : Thread nD τ), .dma (dsem k j))

/-- Device `c`'s transfer cells are open, at their first round. -/
def reach (c : Dev nD) : sProp 𝕄 := bigSep Finset.univ fun kj : Fin 4 × Fin 6 => reached ER (dcell c kj.1 kj.2) 0

instance reach_persistent (c : Dev nD) : BI.Persistent (reach (F := F) c) := by unfold reach; infer_instance
instance reach_storable (c : Dev nD) : BI.Storable (upEmb : UEmb _ 𝕄) (reach (F := F) c) := by unfold reach; infer_instance

/-- What a transfer of step `j`'s rows credits. -/
def amt (j : Fin 6) : ℕ := RefSig.tileCredit ⟨2, ![nr j, 1024]⟩ .f32
theorem amt_pos (j : Fin 6) : 0 < amt j := by
  refine RefSig.tileCredit_pos _ _ ?_
  revert j; decide

section Sched

-- `P` is each device's contribution, on the whole array
variable (P : Dev nD → Ix 2048 → F .f32)

/-- The partial sums of device `c` before and after step `j`; the reduced array. -/
abbrev preA (j : Fin 6) (c : Dev nD) : Ix 2048 → F .f32 := pre FloatOps.addf P j c
abbrev postA (j : Fin 6) (c : Dev nD) : Ix 2048 → F .f32 := post FloatOps.addf P j c
abbrev totA : Ix 2048 → F .f32 := total FloatOps.addf P

/-- The landing rows of step `j` on device `c`. -/
abbrev slot (j : Fin 6) : Finset (Ix 1792) := rows 1792 (so j) (nr j)

/-- What partner `par d c`'s signal hands `c`: the landing rows on that partner that `c` sends into, and that the
    partner's transfer cells are open. -/
def barPay (c : Dev nD) (d : Fin 3) : sProp 𝕄 :=
  iprop((∃ f, cPts (F := F) (par d c) (slot (j0 d)) f) ∗ (∃ f, cPts (F := F) (par d c) (slot (j1 d)) f) ∗ reach (par d c))

/-- The landing rows of step `j` on `c`, holding the partner's partial sums of the rows `c` keeps. -/
def landed (j : Fin 6) (c : Dev nD) : sProp 𝕄 :=
  iprop(∃ g, ⌜Shift (so j) (ko j c) (nr j) g (preA P j (pr j c))⌝ ∗ cPts (F := F) c (slot j) g)

/-- What transfer cell `(k, j)` of device `c` hands it. -/
def dmaPay (k : Fin 4) (j : Fin 6) (c : Dev nD) : sProp 𝕄 :=
  match k with
  | 0 => iprop(emp)
  | 1 => iprop(landed P j c ∗ oPts (pr j c) (rows 2048 (ko j c) (nr j)) (preA P j (pr j c)))
  | 2 => oPts c (rows 2048 (ko j c) (nr j)) (totA P)
  | 3 => oPts c (rows 2048 (xo j c) (nr j)) (totA P)

instance barPay_storable (c : Dev nD) (d : Fin 3) : BI.Storable (upEmb : UEmb _ 𝕄) (barPay (F := F) c d) := by unfold barPay; infer_instance
instance dmaPay_storable (k : Fin 4) (j : Fin 6) (c : Dev nD) : BI.Storable (upEmb : UEmb _ 𝕄) (dmaPay P k j c) := by
  unfold dmaPay landed; split <;> infer_instance

/-- One round: a barrier cell's three duties of a unit each; a transfer cell's one duty, of the transfer's credit. -/
def bRd : Rounds.Schedule (GSem nD τ sig) (Fin 3) 𝕄 where
  duties g r := if r = 0 ∧ g.1.2 = .tc then (match g.2 with
    | .reg s => if s = barS then Finset.univ else ∅
    | .dma q => if base ≤ q.val then {0} else ∅) else ∅
  unitless _ := False
  amount g _ _ := match g.2 with
    | .reg _ => 1
    | .dma q => amt (dj q)
  payload g _ d := match g.2 with
    | .reg _ => barPay g.1.1 d
    | .dma q => dmaPay P (dk q) (dj q) g.1.1
  amount_pos g _ _ _ := by
    obtain ⟨t, s | q⟩ := g
    · exact Nat.one_pos
    · exact amt_pos _

instance bRd_payload_storable (g : GSem nD τ sig) (r : ℕ) (d : Fin 3) :
    BI.Storable (upEmb : UEmb _ 𝕄) ((bRd P).payload g r d) := by
  obtain ⟨t, s | q⟩ := g
  · exact barPay_storable _ _
  · exact dmaPay_storable P _ _ _

variable (c : Dev nD) (k : Fin 4) (j : Fin 6)

theorem duties_bar : (bRd P).duties (barCell c) 0 = Finset.univ := by
  dsimp only [bRd]; rw [if_pos ⟨rfl, rfl⟩]; exact if_pos rfl
theorem duties_dma : (bRd P).duties (dcell c k j) 0 = {0} := by
  dsimp only [bRd]; rw [if_pos ⟨rfl, rfl⟩]; exact if_pos (base_le_dsem k j)
theorem duties_later (g : GSem nD τ sig) : ∀ r, 1 ≤ r → (bRd P).duties g r = ∅ :=
  fun r hr => by dsimp only [bRd]; exact if_neg fun h => by omega
theorem amount_bar (d : Fin 3) : (bRd P).amount (barCell c) 0 d = 1 := rfl
theorem amount_dma (d : Fin 3) : (bRd P).amount (dcell c k j) 0 d = amt j := by
  show amt (dj (dsem k j)) = amt j; rw [dj_dsem]
theorem payload_bar (d : Fin 3) : (bRd P).payload (barCell c) 0 d = barPay c d := rfl
theorem payload_dma (d : Fin 3) : (bRd P).payload (dcell c k j) 0 d = dmaPay P k j c := by
  show dmaPay P (dk (dsem k j)) (dj (dsem k j)) c = _; rw [dk_dsem, dj_dsem]
theorem expect_bar : (bRd P).expect (barCell c) 0 = 3 := by
  unfold Schedule.expect Schedule.amountOf
  rw [duties_bar, Finset.sum_congr rfl fun d _ => amount_bar P c d, Finset.sum_const, Finset.card_univ, Fintype.card_fin, smul_eq_mul]
theorem expect_dma : (bRd P).expect (dcell c k j) 0 = amt j := by
  unfold Schedule.expect Schedule.amountOf; rw [duties_dma, Finset.sum_singleton, amount_dma]
theorem rest_bar : bigSep ((bRd P).duties (barCell c) 0 \ ∅) (fun d => (bRd P).payload (barCell c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_dma : bigSep ((bRd P).duties (dcell c k j) 0 \ ∅) (fun d => (bRd P).payload (dcell c k j) 0 d) = dmaPay P k j c := by
  rw [Finset.sdiff_empty, duties_dma, bigSep_singleton, payload_dma]

end Sched

/-! ## What each device owes; the levels -/

/-- The receive credits device `c` gives, in the order it starts the transfers: kind and step. -/
def sends : List (Fin 4 × Fin 6) := [(1, 0), (1, 3), (1, 1), (1, 4), (1, 2), (1, 5), (3, 2), (3, 5), (3, 1), (3, 4), (3, 0), (3, 3)]

/-- The credits of a list of transfers, owed to the partners' receive cells; the first is the outermost summand. -/
def Orem (c : Dev nD) : List (Fin 4 × Fin 6) → CellTallies nD τ sig Unit
  | [] => 0
  | x :: xs => Orem c xs + tallyAt (dcell (pr x.2 c) x.1 x.2) () (amt x.2)

/-- At launch: all of them, and one unit to each partner's barrier, the first signalled outermost. -/
def O₀ (c : Dev nD) : CellTallies nD τ sig Unit :=
  Orem c sends + tallyAt (barCell (par 2 c)) () 1 + tallyAt (barCell (par 1 c)) () 1 + tallyAt (barCell (par 0 c)) () 1

def L (g : GSem nD τ sig) : Finset Unit := if g.1.2 = .tc then {()} else ∅
/-- A receive cell's level: after the barrier, the reduce-scatter's stages in order, then the all-gather's in reverse. -/
def rlev (x : Fin 4 × Fin 6) : ℕ := if x.1 = 1 then 2 + st x.2 else if x.1 = 3 then 7 - st x.2 else 0
def lv (g : GSem nD τ sig) (_ : Unit) : ℕ := match g.2 with
  | .reg _ => 1
  | .dma q => if base ≤ q.val then rlev (dk q, dj q) else 0

theorem L_of_ne (g : GSem nD τ sig) (h : g.1.2 ≠ .tc) : L g = ∅ := if_neg h
theorem L_tc (c : Dev nD) (sm : SemLoc sig) : L ((c : Thread nD τ), sm) = {()} := if_pos rfl
theorem lv_dcell (c : Dev nD) (k : Fin 4) (j : Fin 6) (u : Unit) : lv (dcell c k j) u = rlev (k, j) := by
  show (if base ≤ (dsem k j).val then rlev (dk (dsem k j), dj (dsem k j)) else 0) = _
  rw [if_pos (base_le_dsem k j), dk_dsem, dj_dsem]

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem Orem_pos {c : Dev nD} {g : GSem nD τ sig} {u : Unit} : ∀ {xs : List (Fin 4 × Fin 6)}, 0 < Orem c xs g u → ∃ x ∈ xs, g = dcell (pr x.2 c) x.1 x.2
  | [], h => absurd h (Nat.lt_irrefl 0)
  | x :: xs, h => by
    unfold Orem at h
    rw [Pi.add_apply, Finsupp.add_apply] at h
    by_cases h1 : 0 < Orem c xs g u
    · obtain ⟨y, hy, e⟩ := Orem_pos h1
      exact ⟨y, List.mem_cons_of_mem _ hy, e⟩
    · rw [Nat.eq_zero_of_not_pos h1, Nat.zero_add] at h
      exact ⟨x, List.mem_cons_self, tally_pos h⟩

theorem O₀_pos {c : Dev nD} {g : GSem nD τ sig} {u : Unit} (h : 0 < O₀ c g u) :
    (∃ x ∈ sends, g = dcell (pr x.2 c) x.1 x.2) ∨ ∃ d, g = barCell (par d c) := by
  unfold O₀ at h
  rw [Pi.add_apply, Finsupp.add_apply, Pi.add_apply, Finsupp.add_apply, Pi.add_apply, Finsupp.add_apply] at h
  by_cases h1 : 0 < Orem c sends g u
  · exact .inl (Orem_pos h1)
  by_cases h2 : 0 < (tallyAt (barCell (par 2 c)) () 1 : CellTallies nD τ sig Unit) g u
  · exact .inr ⟨2, tally_pos h2⟩
  by_cases h3 : 0 < (tallyAt (barCell (par 1 c)) () 1 : CellTallies nD τ sig Unit) g u
  · exact .inr ⟨1, tally_pos h3⟩
  · rw [Nat.eq_zero_of_not_pos h1, Nat.eq_zero_of_not_pos h2, Nat.eq_zero_of_not_pos h3, Nat.zero_add] at h
    exact .inr ⟨0, tally_pos h⟩

/-- Device `c` may wait on a cell of its own that lies below every transfer it still owes. -/
theorem mayWait_Orem (c : Dev nD) (sm : SemLoc sig) (n : ℕ) (hn : lv ((c : Thread nD τ), sm) () = n) (xs : List (Fin 4 × Fin 6))
    (h : ∀ x ∈ xs, n < rlev x) : (levAts L lv : sProp 𝕄) ⊢ MayWait (c : Thread nD τ) sm () (Orem c xs) :=
  MayOwe.of_cut (L := L) (lev := lv) n (fun p hp => by rw [Finset.mem_singleton.mp hp, L_tc]; exact Finset.mem_singleton_self _)
    (fun g u hg => by obtain ⟨x, -, rfl⟩ := Orem_pos hg; exact Finset.mem_singleton_self _)
    (fun p hp => by rw [Finset.mem_singleton.mp hp]; exact le_of_eq hn)
    (fun g u hg => by obtain ⟨x, hx, rfl⟩ := Orem_pos hg; rw [lv_dcell]; exact h x hx)

theorem rlev_sends : ∀ x ∈ sends, 1 < rlev x := by decide

/-- A staging semaphore lies below everything owed at launch, and below nothing. -/
theorem mayWait_stage (c : Dev nD) (q : DmaSem sig) (hq : q.val < base) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, -, rfl⟩ | ⟨d, rfl⟩ <;> exact Finset.mem_singleton_self _)
      (fun p hp => by rw [Finset.mem_singleton.mp hp]; show (if base ≤ q.val then _ else 0) ≤ 0; rw [if_neg (by omega)])
      (fun g u hg => by
        rcases O₀_pos hg with ⟨x, hx, rfl⟩ | ⟨d, rfl⟩
        · rw [lv_dcell]; exact lt_trans Nat.zero_lt_one (rlev_sends x hx)
        · exact Nat.one_pos)
  · rw [MayWait_zero]; iintro -; iempintro

end Cert.KernelIdealProof

end
-- ==== Proof.KernelIdealCompute.lean ====
/-
# The compute kernel's body

One grid point of the compute kernel works on one head: it projects the queries, runs through the eight blocks of 256 rows —
each attends to the 512 keys its window lies in — and adds the head's projected rows to the accumulated result. This module
carries the body from the operands it is given to that result, as a function of them.
-/
module

public import proofs.«01_k».proof.Proof.KernelIdealProto
public import proofs.«01_k».proof.Proof.Gen.KernelIdeal.Loops

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## What a head computes -/

theorem trips_eq : k0_t1_loop.trips = 8 := by decide

/-- Query block `t`: its 256 rows; and the 512 rows of keys or values its window lies in. -/
abbrev qrect (t : Fin k0_t1_loop.trips) : Rect S2048x128 := Rect.unit (s := S2048x128) (k0_off1 t) S256x128.size (k0_off1_inb t)
abbrev krect (t : Fin k0_t1_loop.trips) : Rect S1x2048x128 := Rect.unit (s := S1x2048x128) (k0_off2 t) S1x512x128.size (k0_off2_inb t)
def qblk (t : Fin k0_t1_loop.trips) (q : Vec F S2048x128 .f32) : Vec F S256x128 .f32 := fun x => q ((qrect t).emb x)
def kspan (t : Fin k0_t1_loop.trips) (k : Vec F S1x2048x128 .bf16) : Vec F S1x512x128 .bf16 := fun x => k ((krect t).emb x)

/-- The block's attention over its span. -/
def blockOut (q : Vec F S2048x128 .f32) (k v : Vec F S1x2048x128 .bf16) (t : Fin k0_t1_loop.trips) : Vec F S256x128 .f32 :=
  k0_pay2 (k0_pay5 0#32 1#32 t (qblk t q) (kspan t k) (kspan t v))

/-- The block a row lies in, and its place there. -/
def tripOf (i : S2048x128.Idx) : Fin k0_t1_loop.trips :=
  ⟨(i 0).val / 256, by have h : (i 0).val < 2048 := (i 0).isLt; rw [trips_eq]; omega⟩
def inBlk (i : S2048x128.Idx) : S256x128.Idx := fun a => match a with
  | ⟨0, _⟩ => (⟨(i 0).val % 256, Nat.mod_lt _ (by decide)⟩ : Fin 256)
  | ⟨1, _⟩ => (⟨(i 1).val, (i 1).isLt⟩ : Fin 128)

/-- All the head's rows. -/
def ctx (q : Vec F S2048x128 .f32) (k v : Vec F S1x2048x128 .bf16) : Vec F S2048x128 .f32 :=
  fun i => blockOut q k v (tripOf i) (inBlk i)

theorem qrect_emb (t : Fin k0_t1_loop.trips) (x : S256x128.Idx) :
    (((qrect t).emb x) 0).val = 256 * t.val + (x 0).val ∧ (((qrect t).emb x) 1).val = (x 1).val := by
  have h := k0_off1_eq t
  constructor
  · show (k0_off1 t) 0 + 1 * (x 0).val = _
    rw [h]; show 256 * t.val + 1 * (x 0).val = _; omega
  · show (k0_off1 t) 1 + 1 * (x 1).val = _
    rw [h]; show 0 + 1 * (x 1).val = _; omega

theorem tripOf_emb (t : Fin k0_t1_loop.trips) (x : S256x128.Idx) : tripOf ((qrect t).emb x) = t := by
  have h := (qrect_emb t x).1
  have hx : (x 0).val < 256 := (x 0).isLt
  apply Fin.ext
  show (((qrect t).emb x) 0).val / 256 = _
  omega
theorem inBlk_emb (t : Fin k0_t1_loop.trips) (x : S256x128.Idx) : inBlk ((qrect t).emb x) = x := by
  have h := qrect_emb t x
  have hx : (x 0).val < 256 := (x 0).isLt
  funext a
  apply Fin.ext
  match a with
  | ⟨0, _⟩ =>
    have e : (((qrect t).emb x) 0).val % 256 = (x 0).val := by omega
    exact e
  | ⟨1, _⟩ => exact h.2
theorem ctx_emb (q : Vec F S2048x128 .f32) (k v : Vec F S1x2048x128 .bf16) (t : Fin k0_t1_loop.trips) (x : S256x128.Idx) :
    ctx q k v ((qrect t).emb x) = blockOut q k v t x := by
  unfold ctx; rw [tripOf_emb, inBlk_emb]
theorem emb_of_trip (i : S2048x128.Idx) : (qrect (tripOf i)).emb (inBlk i) = i := by
  have h := qrect_emb (tripOf i) (inBlk i)
  funext a
  apply Fin.ext
  match a with
  | ⟨0, _⟩ => exact h.1.trans (Nat.div_add_mod (i 0).val 256)
  | ⟨1, _⟩ => exact h.2

/-! ## Loads and stores of what is owned -/

section Access

variable (c : Dev nD) {s : Shape} {e : EltTy} (m : Memref sig .tc .vmem s e)
abbrev own (X : s.Idx → Elt F e) : sProp 𝕄 :=
  owns (Ix := Unit) (Name := ℕ) (U := UU) (Lvl := ℕ) (c : Thread nD τ) m fullShare X

theorem wp_load_own {r : Rect s} {hl : m.view.LoadsAt r.toLoadRect} {X : s.Idx → Elt F e} {α : Type} {Q : α → sProp 𝕄}
    {kk : (r.shape.Idx → Elt F e) → Prog (TpuEff nD τ sig (Elt F) Λ₀ .tc) α} :
    own c m X ⊢ iprop((own c m X -∗ wp frame (wpE (defs₀ (F := F)) Variants.none (c : Thread nD τ) none) Set.univ (kk fun x => X (r.emb x)) Q)
      -∗ wp frame (wpE (defs₀ (F := F)) Variants.none (c : Thread nD τ) none) Set.univ (.op (.load m r.toLoadRect hl) kk) Q) := by
  unfold own owns
  iintro ⟨%f, %hf, H⟩ Hk
  iapply (wp_load Variants.none (c : Thread nD τ) none Set.univ (m := m) (hl := hl) (S := m.view.set) (f := f) (Finset.map_subset_map.mpr (Finset.subset_univ _))) $$ H
  iintro H
  have hr : m.view.readAt (Elt F) r.toLoadRect f = fun x => X (r.emb x) := by subst hf; rfl
  rw [hr]
  iapply Hk
  iexists f; isplitr; · ipureintro; exact hf
  iexact H

theorem wp_store_own {r : Rect s} {w : r.shape.Idx → Elt F e} {hx : (m.access r).Stores Finset.univ}
    {hm : (Finset.univ : Finset r.shape.Idx) = Finset.univ ∨ ∀ a, r.stride a = 1}
    {X : s.Idx → Elt F e} {α : Type} {Q : α → sProp 𝕄} {kk : PUnit → Prog (TpuEff nD τ sig (Elt F) Λ₀ .tc) α} :
    own c m X ⊢ iprop((∀ Y, ⌜(∀ x, Y (r.emb x) = w x) ∧ ∀ y, y ∉ Finset.univ.map r.emb → Y y = X y⌝ -∗ own c m Y -∗
        wp frame (wpE (defs₀ (F := F)) Variants.none (c : Thread nD τ) none) Set.univ (kk ⟨⟩) Q)
      -∗ wp frame (wpE (defs₀ (F := F)) Variants.none (c : Thread nD τ) none) Set.univ (.op (.store m r w Finset.univ hx hm) kk) Q) := by
  unfold own owns
  iintro ⟨%f, %hf, H⟩ Hk
  iapply (wp_store Variants.none (c : Thread nD τ) none Set.univ (m := m) (r := r) (w := w) (Mk := Finset.univ) (hx := hx) (hm := hm) (S := m.view.set) (f := f)
    (by
      show (Finset.univ.map _) ⊆ _
      intro i hi
      obtain ⟨x, -, rfl⟩ := Finset.mem_map.mp hi
      exact m.view.emb_mem_set (r.emb x))) $$ H
  iintro H
  iapply Hk $$ %(m.view.read (Elt F) ((m.view.slice r).write (Elt F) f w Finset.univ))
  · ipureintro
    refine ⟨fun x => View.read_slice_write_emb r f w (Finset.mem_univ x), fun y hy => ?_⟩
    rw [View.read_slice_write_of_not_mem r f w Finset.univ hy, hf]
  · iexists _; isplitr; · (ipureintro; rfl)
    iexact H

end Access

/-- The rectangle of a whole buffer is its own. -/
theorem whole_emb2 {n n' : ℕ} (inb : ∀ a, (![0, 0] : Fin 2 → ℕ) a + (⟨2, ![n, n']⟩ : Shape).size a ≤ (⟨2, ![n, n']⟩ : Shape).size a)
    (x : (⟨2, ![n, n']⟩ : Shape).Idx) : (Rect.unit (s := ⟨2, ![n, n']⟩) ![0, 0] (⟨2, ![n, n']⟩ : Shape).size inb).emb x = x := by
  funext a
  apply Fin.ext
  match a with
  | ⟨0, _⟩ => exact (Nat.zero_add _).trans (Nat.one_mul _)
  | ⟨1, _⟩ => exact (Nat.zero_add _).trans (Nat.one_mul _)

theorem stored_whole {n n' : ℕ} {e : EltTy} {inb : ∀ a, (![0, 0] : Fin 2 → ℕ) a + (⟨2, ![n, n']⟩ : Shape).size a ≤ (⟨2, ![n, n']⟩ : Shape).size a}
    {w Y : (⟨2, ![n, n']⟩ : Shape).Idx → Elt F e}
    (h : ∀ x, Y ((Rect.unit (s := ⟨2, ![n, n']⟩) ![0, 0] (⟨2, ![n, n']⟩ : Shape).size inb).emb x) = w x) : Y = w :=
  funext fun x => (congrArg Y (whole_emb2 inb x).symm).trans (h x)

theorem read_whole2 {n n' : ℕ} {e : EltTy} (inb : ∀ a, (![0, 0] : Fin 2 → ℕ) a + (⟨2, ![n, n']⟩ : Shape).size a ≤ (⟨2, ![n, n']⟩ : Shape).size a)
    (X : (⟨2, ![n, n']⟩ : Shape).Idx → Elt F e) :
    (fun x => X ((Rect.unit (s := ⟨2, ![n, n']⟩) ![0, 0] (⟨2, ![n, n']⟩ : Shape).size inb).emb x)) = X :=
  funext fun x => congrArg X (whole_emb2 inb x)

/-! ## The loop over the blocks -/

section Body

variable (c : Dev nD) (i : grid0.Coords)
  (arg1 : Memref sig .tc .vmem S2048x1024 .bf16) (harg1 : arg1.IsWhole) (arg2 : Memref sig .tc .vmem S1024x128 .bf16) (harg2 : arg2.IsWhole)
  (arg3 : Memref sig .tc .vmem S1x2048x128 .bf16) (harg3 : arg3.IsWhole) (arg4 : Memref sig .tc .vmem S1x2048x128 .bf16) (harg4 : arg4.IsWhole)
  (arg5 : Memref sig .tc .vmem S128x1024 .bf16) (harg5 : arg5.IsWhole) (arg6 : Memref sig .tc .vmem S2048x1024 .f32) (harg6 : arg6.IsWhole)
  (arg7 : Memref sig .tc .vmem S2048x128 .f32) (harg7 : arg7.IsWhole) (arg8 : Memref sig .tc .vmem S2048x128 .f32) (harg8 : arg8.IsWhole)
  (q : Vec F S2048x128 .f32) (k v : Vec F S1x2048x128 .bf16)

/-- Before block `n`: the rows of the blocks before it are done. -/
def blocksDone (n : ℕ) : sProp 𝕄 :=
  iprop(own c arg3 k ∗ own c arg4 v ∗ own c arg7 q ∗ ∃ Y, ⌜∀ y : S2048x128.Idx, (y 0).val < 256 * n → Y y = ctx q k v y⌝ ∗ own c arg8 Y)

theorem trip_step (t : Fin k0_t1_loop.trips) (u : Unit) :
    blocksDone c arg3 arg4 arg7 arg8 q k v t.val
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 t u)
          (fun _ => blocksDone c arg3 arg4 arg7 arg8 q k v (t.val + 1)) := by
  unfold k0_t1_body
  simp only [k0_part1_eq_skeleton, k0_part1_skel]
  simp only [Prog.lift, Prog.bind_op, Prog.bind_ret, Prog.pure_eq_ret]
  unfold blocksDone
  iintro ⟨H3, H4, H7, ⟨%Y, %hY, H8⟩⟩
  iapply (wp_load_own c arg7) $$ H7; iintro H7
  iapply (wp_load_own c arg3) $$ H3; iintro H3
  iapply (wp_load_own c arg4) $$ H4; iintro H4
  iapply (wp_load_own c arg8) $$ H8; iintro H8
  iapply (wp_store_own c arg8) $$ H8
  iintro %Z %hZ H8
  rw [wp_ret]; imodintro
  isplitl [H3]; · iexact H3
  isplitl [H4]; · iexact H4
  isplitl [H7]; · iexact H7
  iexists Z
  isplitr
  · ipureintro
    intro y hy
    by_cases hm : y ∈ Finset.univ.map (qrect t).emb
    · obtain ⟨x, -, rfl⟩ := Finset.mem_map.mp hm
      rw [ctx_emb]
      exact hZ.1 x
    · rw [hZ.2 y hm]
      refine hY y ?_
      by_contra hn
      refine hm (Finset.mem_map.mpr ⟨inBlk y, Finset.mem_univ _, ?_⟩)
      have ht : tripOf y = t := Fin.ext (by show (y 0).val / 256 = t.val; omega)
      rw [← ht]; exact emb_of_trip y
  · iexact H8

theorem wp_blocks {α : Type} {Q : α → sProp 𝕄} {kk : Unit → Prog (TpuEff nD τ sig (Elt F) Λ₀ .tc) α} {Y : Vec F S2048x128 .f32} :
    iprop(own c arg3 k ∗ own c arg4 v ∗ own c arg7 q ∗ own c arg8 Y)
      ⊢ iprop(((own c arg3 k ∗ own c arg4 v ∗ own c arg7 q ∗ own c arg8 (ctx q k v)) -∗ wp frame (wpE (defs₀ (F := F)) Variants.none (c : Thread nD τ) none) Set.univ (kk ⟨⟩) Q)
        -∗ wp frame (wpE (defs₀ (F := F)) Variants.none (c : Thread nD τ) none) Set.univ
          (Scf.Loop.for k0_t1_loop k0_t1_ok ⟨⟩ (k0_t1_body (F := F) i arg1 harg1 arg2 harg2 arg3 harg3 arg4 harg4 arg5 harg5 arg6 harg6 arg7 harg7 arg8 harg8) >>= kk) Q) := by
  iintro ⟨H3, H4, H7, H8⟩ Hk
  iapply (Scf.wp_for_bind frame (wpE (defs₀ (F := F)) Variants.none (c : Thread nD τ) none) Set.univ k0_t1_loop.lb k0_t1_loop.ub k0_t1_loop.st k0_t1_ok ()
    (k0_t1_body (F := F) i arg1 harg1 arg2 harg2 arg3 harg3 arg4 harg4 arg5 harg5 arg6 harg6 arg7 harg7 arg8 harg8)
    (fun n _ => blocksDone c arg3 arg4 arg7 arg8 q k v n)
    (fun t u => trip_step c i arg1 harg1 arg2 harg2 arg3 harg3 arg4 harg4 arg5 harg5 arg6 harg6 arg7 harg7 arg8 harg8 q k v t u)) $$ [H3 H4 H7 H8]
  · unfold blocksDone
    isplitl [H3]; · iexact H3
    isplitl [H4]; · iexact H4
    isplitl [H7]; · iexact H7
    iexists Y; isplitr
    · ipureintro; intro y hy; exact absurd hy (Nat.not_lt_zero _)
    · iexact H8
  iintro %u H
  unfold blocksDone
  icases H with ⟨H3, H4, H7, ⟨%Z, %hZ, H8⟩⟩
  iapply Hk
  isplitl [H3]; · iexact H3
  isplitl [H4]; · iexact H4
  isplitl [H7]; · iexact H7
  have e : Z = ctx q k v := funext fun y => hZ y (by
    show (y 0).val < 256 * k0_t1_loop.trips
    have h : (y 0).val < 2048 := (y 0).isLt
    rw [trips_eq]; omega)
  rw [← e]; iexact H8

end Body

/-! ## A grid point -/

/-- The first head starts the accumulated result, a later one adds to it. -/
def headOut (i : grid0.Coords) (x : Vec F S2048x1024 .bf16) (wq : Vec F S1024x128 .bf16) (k v : Vec F S1x2048x128 .bf16) (wo : Vec F S128x1024 .bf16)
    (a : Vec F S2048x1024 .f32) : Vec F S2048x1024 .f32 :=
  if (i 0).val = 0 then k0_pay3 (ctx (k0_pay1 x wq) k v) wo else k0_pay4 (ctx (k0_pay1 x wq) k v) wo a

theorem cond1_iff : ∀ i : grid0.Coords, k0_cond1 i = 1#1 ↔ (i 0).val = 0 := by decide +kernel
theorem cond2_iff : ∀ i : grid0.Coords, k0_cond2 i = 1#1 ↔ ¬ (i 0).val = 0 := by decide +kernel

set_option maxHeartbeats 1000000 in
theorem compute_core (c : Dev nD) (i : grid0.Coords)
    (arg1 : Memref sig .tc .vmem S2048x1024 .bf16) (harg1 : arg1.IsWhole) (arg2 : Memref sig .tc .vmem S1024x128 .bf16) (harg2 : arg2.IsWhole)
    (arg3 : Memref sig .tc .vmem S1x2048x128 .bf16) (harg3 : arg3.IsWhole) (arg4 : Memref sig .tc .vmem S1x2048x128 .bf16) (harg4 : arg4.IsWhole)
    (arg5 : Memref sig .tc .vmem S128x1024 .bf16) (harg5 : arg5.IsWhole) (arg6 : Memref sig .tc .vmem S2048x1024 .f32) (harg6 : arg6.IsWhole)
    (arg7 : Memref sig .tc .vmem S2048x128 .f32) (harg7 : arg7.IsWhole) (arg8 : Memref sig .tc .vmem S2048x128 .f32) (harg8 : arg8.IsWhole)
    (x : Vec F S2048x1024 .bf16) (wq : Vec F S1024x128 .bf16) (k v : Vec F S1x2048x128 .bf16) (wo : Vec F S128x1024 .bf16)
    (a : Vec F S2048x1024 .f32) (Kt : PUnit → sProp 𝕄) :
    iprop((own c arg1 x ∗ own c arg2 wq ∗ own c arg3 k ∗ own c arg4 v ∗ own c arg5 wo ∗ own c arg6 a ∗ (∃ f, own c arg7 f) ∗ ∃ f, own c arg8 f)
      ∗ ((own c arg1 x ∗ own c arg2 wq ∗ own c arg3 k ∗ own c arg4 v ∗ own c arg5 wo ∗ own c arg6 (headOut i x wq k v wo a) ∗ (∃ f, own c arg7 f) ∗ ∃ f, own c arg8 f) -∗ Kt ⟨⟩))
      ⊢ wp frame (wpE (defs₀ (F := F)) Variants.none (c : Thread nD τ) none) Set.univ
          (cc0__compute_body (F := F) i arg1 harg1 arg2 harg2 arg3 harg3 arg4 harg4 arg5 harg5 arg6 harg6 arg7 harg7 arg8 harg8) Kt := by
  simp only [cc0__compute_body_eq_skeleton]; unfold cc0__compute_body_skel
  simp only [Prog.lift, Prog.bind_op, Prog.bind_ret, Prog.pure_eq_ret]
  iintro ⟨⟨H1, H2, H3, H4, H5, H6, ⟨%f7, H7⟩, ⟨%f8, H8⟩⟩, Hk⟩
  iapply (wp_load_own c arg1) $$ H1; iintro H1
  iapply (wp_load_own c arg2) $$ H2; iintro H2
  iapply (wp_load_own c arg7) $$ H7; iintro H7
  iapply (wp_store_own c arg7) $$ H7
  iintro %Z %hZ H7
  have hq : Z = k0_pay1 x wq := by
    exact (stored_whole (F := F) hZ.1).trans (congrArg₂ k0_pay1 (read_whole2 (F := F) _ x) (read_whole2 (F := F) _ wq))
  subst hq
  iapply (wp_blocks c i arg1 harg1 arg2 harg2 arg3 harg3 arg4 harg4 arg5 harg5 arg6 harg6 arg7 harg7 arg8 harg8 (k0_pay1 x wq) k v) $$ [H3 H4 H7 H8]
  · isplitl [H3]; · iexact H3
    isplitl [H4]; · iexact H4
    isplitl [H7]; · iexact H7
    iexact H8
  iintro ⟨H3, H4, H7, H8⟩
  iapply (wp_load_own c arg8) $$ H8; iintro H8
  iapply (wp_load_own c arg5) $$ H5; iintro H5
  by_cases h0 : (i 0).val = 0
  · rw [dif_pos ((cond1_iff i).mpr h0), dif_neg (fun h => (cond2_iff i).mp h h0)]
    simp only [Prog.bind_op, Prog.bind_ret]
    iapply (wp_load_own c arg6) $$ H6; iintro H6
    iapply (wp_store_own c arg6) $$ H6
    iintro %A %hA H6
    have ha : A = headOut i x wq k v wo a := by
      unfold headOut
      rw [if_pos h0]
      exact (stored_whole (F := F) hA.1).trans (congrArg₂ k0_pay3 (read_whole2 (F := F) _ _) (read_whole2 (F := F) _ wo))
    subst ha
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · (iexists _; iexact H7)
    iexists _; iexact H8
  · rw [dif_neg (fun h => h0 ((cond1_iff i).mp h)), dif_pos ((cond2_iff i).mpr h0)]
    simp only [Prog.bind_op, Prog.bind_ret]
    iapply (wp_load_own c arg6) $$ H6; iintro H6
    iapply (wp_load_own c arg6) $$ H6; iintro H6
    iapply (wp_store_own c arg6) $$ H6
    iintro %A %hA H6
    have ha : A = headOut i x wq k v wo a := by
      unfold headOut
      rw [if_neg h0]
      exact (stored_whole (F := F) hA.1).trans ((congrArg₂ (fun b d => k0_pay4 b d _) (read_whole2 (F := F) _ _) (read_whole2 (F := F) _ wo)).trans
        (congrArg (k0_pay4 _ _) (read_whole2 (F := F) _ a)))
    subst ha
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · (iexists _; iexact H7)
    iexists _; iexact H8

end Cert.KernelIdealProof

end
-- ==== Proof.KernelIdealHead.lean ====
/-
# The compute kernel's grid

The compute kernel runs over the eight heads of a device, one grid point a head. This module states what every window holds at
every point — each operand its block, the result the sum over the heads so far — and shows the body keeps to it.
-/
module

public import proofs.«01_k».proof.Proof.KernelIdealCompute
public import proofs.«01_k».proof.Proof.Gen.KernelIdeal.Points
public import Idealize.ShloMosaic.Lib.Pipeline.Frame
public import Idealize.ShloMosaic.Lib.Pipeline.Value
public import Idealize.ShloMosaic.Lib.Pipeline.ValueKit

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ UU ℕ

variable (V : Dev nD → Valuation τ sig (Elt F))

/-- The compute kernel's arrays, as it finds them. -/
def arr0 (c : Dev nD) (w : Fin 6) : Buf (Elt F) ((cfg0.win w).arr.view.loc (c.tc : Thread nD τ)) :=
  V c (Proc.devRef .tc (Pipeline.arrRef spec0 w))

/-- An operand's block at a point. -/
def blk0 (c : Dev nD) (w : Fin 6) (t : Fin cfg0.N) : (cfg0.win w).block.Idx → Elt F (cfg0.win w).elt :=
  Pipeline.heldIn (c := c) cfg0 (arr0 V c) w t.val t.isLt

/-- The result after the head at a point. -/
def accAt (c : Dev nD) : (n : ℕ) → n < cfg0.N → Vec F S2048x1024 .f32
  | 0, h => k0_pay3 (ctx (k0_pay1 (blk0 V c 0 ⟨0, h⟩) (blk0 V c 1 ⟨0, h⟩)) (blk0 V c 2 ⟨0, h⟩) (blk0 V c 3 ⟨0, h⟩)) (blk0 V c 4 ⟨0, h⟩)
  | n + 1, h => headOut (grid0.coords ⟨n + 1, h⟩) (blk0 V c 0 ⟨n + 1, h⟩) (blk0 V c 1 ⟨n + 1, h⟩) (blk0 V c 2 ⟨n + 1, h⟩) (blk0 V c 3 ⟨n + 1, h⟩)
      (blk0 V c 4 ⟨n + 1, h⟩) (accAt c n (Nat.lt_of_succ_lt h))

def dat0 (c : Dev nD) : Dat τ (Elt F) Unit ℕ UU ℕ cfg0 c where
  A w := arr0 V c w
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => accAt V c t.val t.isLt
  Φ _ := Pipeline.scopedRest spec0 c
  q _ := fullShare
  owed _ := O₀ c

theorem idle0_false (w : Fin 6) (i : grid0.Coords) : cfg0.idle w i = false := by
  match w with
  | ⟨0, _⟩ => rfl
  | ⟨1, _⟩ => rfl
  | ⟨2, _⟩ => rfl
  | ⟨3, _⟩ => rfl
  | ⟨4, _⟩ => rfl
  | ⟨5, _⟩ =>
    show (!(k0_cond1 i == 1#1) && !(k0_cond2 i == 1#1)) = false
    by_cases h : (i 0).val = 0
    · rw [(cond1_iff i).mpr h]; rfl
    · rw [(cond2_iff i).mpr h, Bool.and_comm]; rfl

theorem before0 (c : Dev nD) (w : Fin 6) (hw : (cfg0.win w).isOut = false) (hclip : ∀ (i : cfg0.grid.Coords) a, (cfg0.win w).clip i a = none)
    (hafter : ∀ t, (dat0 V c).after w t = blk0 V c w t) (t : Fin cfg0.N) (d) : (dat0 V c).before w t d = blk0 V c w t :=
  (dat0 V c).before_eq_heldIn w hw (idle0_false w) hclip hafter t d

theorem coords_zero (h : 0 < cfg0.N) : ((grid0.coords ⟨0, h⟩) 0).val = 0 := by
  revert h; decide

/-- What a head makes of the result it finds is the result after it. -/
theorem acc_step (c : Dev nD) (t : Fin cfg0.N) (d : Vec F S2048x1024 .f32) :
    headOut (grid0.coords t) (blk0 V c 0 t) (blk0 V c 1 t) (blk0 V c 2 t) (blk0 V c 3 t) (blk0 V c 4 t) ((dat0 V c).before (5 : Fin 6) t d)
      = accAt V c t.val t.isLt := by
  obtain ⟨n, hn⟩ := t
  cases n with
  | zero =>
    unfold headOut
    rw [if_pos (coords_zero hn)]
    rfl
  | succ n =>
    have hb : (dat0 V c).before (5 : Fin 6) ⟨n + 1, hn⟩ d = accAt V c n (Nat.lt_of_succ_lt hn) :=
      (dat0 V c).before_out_kept (5 : Fin 6) rfl ⟨n + 1, hn⟩ (Nat.succ_ne_zero n)
        (Bool.eq_false_iff.mpr fun h => by
          have h8 := (flush0_5 (⟨n, Nat.lt_of_succ_lt hn⟩ : Fin cfg0.N)).mp h
          have hN : cfg0.N = 8 := N_0
          have h8' : n % 8 = 7 := h8
          rw [hN] at hn
          omega)
        (idle0_false 5) (fun _ _ => rfl) d
    rw [hb]
    rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem own_intro (c : Dev nD) (b : Ref sig .tc) (f : Buf (Elt F) ((c : Thread nD τ).loc b)) :
    (((c : Thread nD τ).loc b) ↦{fullShare} f : sProp 𝕄) ⊢ owns (Ix := Unit) (Name := ℕ) (U := UU) (Lvl := ℕ) (c : Thread nD τ) (Memref.whole b) fullShare f := by
  rw [owns_whole_eq]
  iintro H
  iexists f
  isplitr; · (ipureintro; rfl)
  iexact H

theorem own_elim (c : Dev nD) (b : Ref sig .tc) (X : b.ty.Contents (Elt F)) :
    owns (Ix := Unit) (Name := ℕ) (U := UU) (Lvl := ℕ) (c : Thread nD τ) (Memref.whole b) fullShare X
      ⊢ (iprop(∃ f : Buf (Elt F) ((c : Thread nD τ).loc b), (((c : Thread nD τ).loc b) ↦{fullShare} f)) : sProp 𝕄) := by
  rw [owns_whole_eq]
  iintro ⟨%f, -, H⟩
  iexists f
  iexact H

/-- The scratch buffers at whatever contents. -/
def scr0 (c : Dev nD) : sProp 𝕄 := iprop((∃ f, own (F := F) c (Memref.whole cc0_scratch0) f) ∗ (∃ f, own (F := F) c (Memref.whole cc0_scratch1) f))
def scrRest (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_scratch0), ((c : Thread nD τ).loc cc1_scratch0) ↦{fullShare} f))

theorem scr_out (c : Dev nD) : (Pipeline.scopedRest spec0 c : sProp 𝕄) ⊢ iprop(scr0 (F := F) c ∗ scrRest (F := F) c) := by
  rw [scopedRest0_eq]
  unfold scr0 scrRest own
  iintro ⟨⟨%f, H0⟩, ⟨%g, H1⟩, H⟩
  isplitl [H0 H1]
  · isplitl [H0]
    · iexists f; iapply (own_intro c cc0_scratch0 f) $$ H0
    · iexists g; iapply (own_intro c cc0_scratch1 g) $$ H1
  iexact H

theorem scr_in (c : Dev nD) : iprop(scr0 (F := F) c ∗ scrRest (F := F) c) ⊢ (Pipeline.scopedRest spec0 c : sProp 𝕄) := by
  rw [scopedRest0_eq]
  unfold scr0 scrRest own
  iintro ⟨⟨⟨%f, H0⟩, ⟨%g, H1⟩⟩, H⟩
  isplitl [H0]
  · iapply (own_elim c cc0_scratch0 f) $$ H0
  isplitl [H1]
  · iapply (own_elim c cc0_scratch1 g) $$ H1
  iexact H

def ob0Pre (c : Dev nD) (t : Fin cfg0.N) : sProp 𝕄 :=
  iprop((Pipeline.scopedRest spec0 c : sProp 𝕄) ∗ (dat0 V c).owesAt () t.castSucc
    ∗ (∃ d, own c (st0_0 t) ((dat0 V c).before (0 : Fin 6) t d))
    ∗ (∃ d, own c (st0_1 t) ((dat0 V c).before (1 : Fin 6) t d))
    ∗ (∃ d, own c (st0_2 t) ((dat0 V c).before (2 : Fin 6) t d))
    ∗ (∃ d, own c (st0_3 t) ((dat0 V c).before (3 : Fin 6) t d))
    ∗ (∃ d, own c (st0_4 t) ((dat0 V c).before (4 : Fin 6) t d))
    ∗ (∃ d, own c (st0_5 t) ((dat0 V c).before (5 : Fin 6) t d)))
def ob0Post (c : Dev nD) (t : Fin cfg0.N) : sProp 𝕄 :=
  iprop((Pipeline.scopedRest spec0 c : sProp 𝕄) ∗ (dat0 V c).owesAt () t.succ
    ∗ own c (st0_0 t) (blk0 V c 0 t) ∗ own c (st0_1 t) (blk0 V c 1 t) ∗ own c (st0_2 t) (blk0 V c 2 t)
    ∗ own c (st0_3 t) (blk0 V c 3 t) ∗ own c (st0_4 t) (blk0 V c 4 t) ∗ own c (st0_5 t) (accAt V c t.val t.isLt))

theorem sound_head (c : Dev nD) (t : Fin cfg0.N) :
    ob0Pre V c t ⊢ wp frame (wpE (defs₀ (F := F)) Variants.none (c : Thread nD τ) none) Set.univ (bodyAt0 (F := F) t) (fun _ => ob0Post V c t) := by
  unfold ob0Pre
  iintro ⟨Hscr, HO, ⟨%d0, H0⟩, ⟨%d1, H1⟩, ⟨%d2, H2⟩, ⟨%d3, H3⟩, ⟨%d4, H4⟩, ⟨%d5, H5⟩⟩
  rw [before0 V c 0 rfl (fun _ _ => rfl) (fun _ => rfl), before0 V c 1 rfl (fun _ _ => rfl) (fun _ => rfl),
    before0 V c 2 rfl (fun _ _ => rfl) (fun _ => rfl), before0 V c 3 rfl (fun _ _ => rfl) (fun _ => rfl),
    before0 V c 4 rfl (fun _ _ => rfl) (fun _ => rfl)]
  ihave Hs := (scr_out (F := F) c) $$ Hscr
  unfold scr0
  icases Hs with ⟨⟨H6, H7⟩, Hr⟩
  iapply (compute_core c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (blk0 V c 0 t) (blk0 V c 1 t) (blk0 V c 2 t) (blk0 V c 3 t) (blk0 V c 4 t) ((dat0 V c).before (5 : Fin 6) t d5))
  isplitr [HO Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [acc_step V c t d5]
  iintro ⟨H0, H1, H2, H3, H4, H5, H6, H7⟩
  unfold ob0Post
  isplitl [H6 H7 Hr]
  · iapply (scr_in (F := F) c)
    unfold scr0
    isplitr [Hr]
    · isplitl [H6]; · iexact H6
      iexact H7
    iexact Hr
  isplitl [HO]
  · iexact HO
  isplitl [H0]; · iexact H0
  isplitl [H1]; · iexact H1
  isplitl [H2]; · iexact H2
  isplitl [H3]; · iexact H3
  isplitl [H4]; · iexact H4
  iexact H5

set_option maxRecDepth 4000 in
theorem body0 (c : Dev nD) : BodyObligation (dat0 V c) (defs₀ (F := F)) Variants.none () Set.univ := fun t => by
  rw [bigSep_W0, bigSep_W0]
  simp only [show idle0 5 (grid0.coords t) = false from idle0_false 5 _]
  exact sound_head V c t

end Cert.KernelIdealProof

end
-- ==== Proof.KernelIdealSteps.lean ====
/-
# The all-reduce kernel's steps

One lemma per kind of operation of the kernel, for every step `j` of the butterfly: the two transfers, the waits, the addition
of the landed rows to the rows kept; and how a range of rows splits and joins. The body (KernelIdealBody.lean) is their
succession.
-/
module

public import proofs.«01_k».proof.Proof.KernelIdealProto

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (P : Dev nD → Ix 2048 → F .f32)

/-! ## The records every device holds -/

/-- A device's cells: its barrier, and its transfer cells by kind and step. -/
abbrev CI : Type := Unit ⊕ (Fin 4 × Fin 6)
abbrev kcell (ck : Dev nD × CI) : GSem nD τ sig := match ck.2 with
  | .inl _ => barCell ck.1
  | .inr kj => dcell ck.1 kj.1 kj.2

/-- Every cell's invariant, and that every barrier cell has reached round 0. -/
def records (K : Dev nD × CI → ℕ) : sProp 𝕄 :=
  iprop((bigSep Finset.univ fun ck : Dev nD × CI => cellInv ER (bRd P) (K ck) (kcell ck))
    ∗ bigSep Finset.univ fun c : Dev nD => reached ER (barCell c) 0)

instance records_persistent (K : Dev nD × CI → ℕ) : BI.Persistent (records P K) := by unfold records; infer_instance

variable (K : Dev nD × CI → ℕ)

/-- … and, after the barrier, that the transfer cells of device `c` and of its three partners are open. -/
def recs (c : Dev nD) : sProp 𝕄 :=
  iprop(records P K ∗ reach c ∗ reach (par 0 c) ∗ reach (par 1 c) ∗ reach (par 2 c))

instance recs_persistent (c : Dev nD) : BI.Persistent (recs P K c) := by unfold recs; infer_instance

theorem inv_at (ck : Dev nD × CI) : records P K ⊢ cellInv ER (bRd P) (K ck) (kcell ck) := by
  unfold records; iintro ⟨H, -⟩
  have h : (bigSep Finset.univ fun ck : Dev nD × CI => (cellInv ER (bRd P) (K ck) (kcell ck) : sProp 𝕄)) ⊢ cellInv ER (bRd P) (K ck) (kcell ck) :=
    bigSep_elim (Finset.mem_univ ck)
  iapply h; iexact H
theorem reached_bar (c : Dev nD) : records P K ⊢ reached ER (barCell c) 0 := by
  unfold records; iintro ⟨-, H⟩
  have h : (bigSep Finset.univ fun c : Dev nD => (reached ER (barCell c) 0 : sProp 𝕄)) ⊢ reached ER (barCell c) 0 := bigSep_elim (Finset.mem_univ c)
  iapply h; iexact H
theorem reach_at (c : Dev nD) (k : Fin 4) (j : Fin 6) : (reach c : sProp 𝕄) ⊢ reached ER (dcell c k j) 0 := by
  unfold reach
  exact bigSep_elim (Φ := fun kj : Fin 4 × Fin 6 => (reached ER (dcell c kj.1 kj.2) 0 : sProp 𝕄)) (Finset.mem_univ (k, j))
theorem recs_inv (c : Dev nD) (ck : Dev nD × CI) : recs P K c ⊢ cellInv ER (bRd P) (K ck) (kcell ck) := by
  unfold recs; iintro ⟨H, -⟩; iapply (inv_at P K ck); iexact H
theorem recs_own (c : Dev nD) (k : Fin 4) (j : Fin 6) : recs P K c ⊢ reached ER (dcell c k j) 0 := by
  unfold recs; iintro ⟨-, H, -⟩; iapply (reach_at c k j); iexact H
theorem recs_par (c : Dev nD) (d : Fin 3) (k : Fin 4) (j : Fin 6) : recs P K c ⊢ reached ER (dcell (par d c) k j) 0 := by
  unfold recs
  match d with
  | 0 => iintro ⟨-, -, H, -⟩; iapply (reach_at (par 0 c) k j); iexact H
  | 1 => iintro ⟨-, -, -, H, -⟩; iapply (reach_at (par 1 c) k j); iexact H
  | 2 => iintro ⟨-, -, -, -, H⟩; iapply (reach_at (par 2 c) k j); iexact H

/-! ## What a device holds of a cell -/

/-- Owing `O`, whatever it has waited for. -/
def owesAny (c : Dev nD) (O : CellTallies nD τ sig Unit) : sProp 𝕄 := iprop(∃ W, owes (c : Thread nD τ) O W)
/-- A send cell not yet used; a cell whose credit the device has; a cell waited on. -/
def ready (k : Fin 4) (j : Fin 6) (c : Dev nD) : sProp 𝕄 := iprop(atPos ER (dcell c k j) 0 ∅ 0 ∗ dutyTok ER (dcell c k j) 0 0)
def waiting (k : Fin 4) (j : Fin 6) (c : Dev nD) : sProp 𝕄 := iprop(atPos ER (dcell c k j) 0 ∅ 0 ∗ cred (tallyAt (dcell c k j) () (amt j)))
def waited (k : Fin 4) (j : Fin 6) (c : Dev nD) : sProp 𝕄 := atPos ER (dcell c k j) (0 + 1) ∅ 0
/-- The right to start a transfer of step `j`: the own send cell, and the token of the partner's receive cell. -/
def rsB (j : Fin 6) (c : Dev nD) : sProp 𝕄 := iprop(ready (F := F) 0 j c ∗ dutyTok ER (dcell (pr j c) 1 j) 0 0)
def agB (j : Fin 6) (c : Dev nD) : sProp 𝕄 := iprop(ready (F := F) 2 j c ∗ dutyTok ER (dcell (pr j c) 3 j) 0 0)

abbrev 𝒱₀ : Variants := Variants.none

/-- A wait on one's own transfer cell. -/
theorem wp_wait (c : Dev nD) (k : Fin 4) (j : Fin 6) {q : DmaSem sig} (hq : q = dsem k j) {s : Shape} {src dst : Memref sig .tc .vmem s .f32}
    {h1 : src.view.WordExact} {h2 : dst.view.WordExact} (hN : dst.view.dmaCredit = amt j) (xs : List (Fin 4 × Fin 6)) (hx : ∀ x ∈ xs, rlev (k, j) < rlev x)
    {α : Type} {Q : α → sProp 𝕄} {kk : PUnit → Prog (TpuEff nD τ sig (Elt F) Λ₀ .tc) α} :
    iprop(records P K ∗ levAts L lv ∗ waiting k j c ∗ owesAny c (Orem c xs))
      ⊢ iprop(((waited (F := F) k j c ∗ owesAny c (Orem c xs) ∗ dmaPay P k j c) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst h1 h2) kk) Q) := by
  subst hq
  unfold waiting owesAny
  iintro ⟨#HR, #Hlev, ⟨Hat, Hc⟩, ⟨%W, HO⟩⟩ Hk
  rw [← hN]
  iapply (Rounds.wp_wait_rest_token 𝒱₀ ER (bRd P) (c : Thread nD τ) none (κ := K (c, .inr (k, j)))
      (wpE_waitDma2_eq 𝒱₀ (c : Thread nD τ) none Set.univ) (Set.mem_univ _) () (O := Orem c xs) (W := W) (R := 0) (m := 0) (T := ∅)
      (by rw [Nat.zero_add, hN, expect_dma])) $$ [Hc HO Hat]
  · isplitr; · iapply (inv_at P K (c, .inr (k, j))); iexact HR
    isplitl [Hc]; · iexact Hc
    isplitl [HO]; · iexact HO
    isplitr; · iapply (mayWait_Orem c _ _ (lv_dcell c k j ()) xs hx); iexact Hlev
    iexact Hat
  iintro ⟨HO, Hat, -, Hpay⟩
  ihave Hp := (Entails.of_eq (rest_dma P c k j)) $$ Hpay
  iapply Hk
  unfold waited
  isplitl [Hat]; · iexact Hat
  isplitl [HO]; · iexists _; iexact HO
  iexact Hp

/-! ## Rows of the two buffers -/

/-- The `n` rows of the result from row `o`, as the kernel slices them. -/
theorem o_set {n o : ℕ} {off : Fin 2 → ℕ} (ho : off = ![o, 0]) (inb : ∀ a, off a + (![n, 1024] : Fin 2 → ℕ) a ≤ S2048x1024.size a) :
    ((oM : Memref sig .tc .vmem S2048x1024 .f32).view.slice (Rect.unit (s := S2048x1024) off ![n, 1024] inb)).set = rows 2048 o n :=
  (View.set_slice_whole cc1_stg1_0 _).trans (rect_set ho inb)
theorem c_set {n o : ℕ} {off : Fin 2 → ℕ} (ho : off = ![o, 0]) (inb : ∀ a, off a + (![n, 1024] : Fin 2 → ℕ) a ≤ S1792x1024.size a) :
    ((cM : Memref sig .tc .vmem S1792x1024 .f32).view.slice (Rect.unit (s := S1792x1024) off ![n, 1024] inb)).set = rows 1792 o n :=
  (View.set_slice_whole cc1_scratch0 _).trans (rect_set ho inb)

/-- Element `x` of a slice of whole rows sits in row `o + x 0`, column `x 1`. -/
theorem rows_emb {R n o : ℕ} {off : Fin 2 → ℕ} (ho : off = ![o, 0]) (inb : ∀ a, off a + (![n, 1024] : Fin 2 → ℕ) a ≤ (⟨2, ![R, 1024]⟩ : Shape).size a)
    (x : (Rect.unit (s := ⟨2, ![R, 1024]⟩) off ![n, 1024] inb).shape.Idx) :
    (((Rect.unit (s := ⟨2, ![R, 1024]⟩) off ![n, 1024] inb).emb x) 0).val = o + (x 0).val
      ∧ (((Rect.unit (s := ⟨2, ![R, 1024]⟩) off ![n, 1024] inb).emb x) 1).val = (x 1).val := by
  subst ho
  constructor
  · show o + 1 * (x 0).val = _; omega
  · show 0 + 1 * (x 1).val = _; omega

/-- A range in its two halves, the kept and the sent. -/
theorem o_split (c : Dev nD) (j : Fin 6) (f : Ix 2048 → F .f32) :
    oPts c (rows 2048 (kp j c) (nr j + nr j)) f ⊣⊢ (iprop(oPts c (rows 2048 (ko j c) (nr j)) f ∗ oPts c (rows 2048 (xo j c) (nr j)) f) : sProp 𝕄) := by
  have h := kx_split j c
  unfold oPts
  rw [rows_union h]
  exact pointsTo_union (rows_disjoint (by omega))

theorem o_congr (c : Dev nD) {S : Finset (Ix 2048)} {f g : Ix 2048 → F .f32} (h : ∀ i ∈ S, f i = g i) : (oPts c S f : sProp 𝕄) = oPts c S g :=
  pointsTo_congr h

/-! ## The transfers -/

/-- Rows landed in the partner's landing buffer hold the sender's. -/
theorem landed_shift {n o b : ℕ} {off off' : Fin 2 → ℕ} (ho : off = ![o, 0]) (ho' : off' = ![b, 0])
    (inb : ∀ a, off a + (![n, 1024] : Fin 2 → ℕ) a ≤ S2048x1024.size a) (inb' : ∀ a, off' a + (![n, 1024] : Fin 2 → ℕ) a ≤ S1792x1024.size a)
    (f : Ix 2048 → F .f32) (g : Ix 1792 → F .f32) :
    Shift b o n (((cM : Memref sig .tc .vmem S1792x1024 .f32).view.slice (Rect.unit (s := S1792x1024) off' ![n, 1024] inb')).write (Elt F) g
      (((oM : Memref sig .tc .vmem S2048x1024 .f32).view.slice (Rect.unit (s := S2048x1024) off ![n, 1024] inb)).read (Elt F) f) Finset.univ) f := by
  intro i i' h1 h2 h3 h4
  obtain ⟨x, hx⟩ : ∃ x, (Rect.unit (s := S1792x1024) off' ![n, 1024] inb').emb x = i := by
    have hi : i ∈ (Rect.unit (s := S1792x1024) off' ![n, 1024] inb').set := by rw [rect_set ho']; exact mem_rows.mpr ⟨h1, h2⟩
    rw [← Rect.map_emb_univ, Finset.mem_map] at hi
    obtain ⟨x, -, hx⟩ := hi
    exact ⟨x, hx⟩
  have e1 := rows_emb ho' inb' x
  have e2 := rows_emb ho inb x
  rw [hx] at e1
  have hi' : (Rect.unit (s := S2048x1024) off ![n, 1024] inb).emb x = i' := by
    funext a
    apply Fin.ext
    fin_cases a
    · show ((Rect.unit (s := S2048x1024) off ![n, 1024] inb).emb x 0).val = (i' 0).val; omega
    · show ((Rect.unit (s := S2048x1024) off ![n, 1024] inb).emb x 1).val = (i' 1).val; omega
  subst hx hi'
  exact (View.write_emb_of_mem _ _ (Finset.mem_univ x)).trans rfl

/-- Rows sent to the same place of the partner's result hold the sender's. -/
theorem sent_rows {n o : ℕ} {off : Fin 2 → ℕ} (ho : off = ![o, 0]) (inb : ∀ a, off a + (![n, 1024] : Fin 2 → ℕ) a ≤ S2048x1024.size a)
    (f g : Ix 2048 → F .f32) : ∀ i ∈ rows 2048 o n,
    ((oM : Memref sig .tc .vmem S2048x1024 .f32).view.slice (Rect.unit (s := S2048x1024) off ![n, 1024] inb)).write (Elt F) g
      (((oM : Memref sig .tc .vmem S2048x1024 .f32).view.slice (Rect.unit (s := S2048x1024) off ![n, 1024] inb)).read (Elt F) f) Finset.univ i = f i := by
  intro i hi
  rw [← rect_set ho inb, ← Rect.map_emb_univ, Finset.mem_map] at hi
  obtain ⟨x, -, rfl⟩ := hi
  exact (View.write_emb_of_mem _ _ (Finset.mem_univ x)).trans rfl

/-- The reduce-scatter transfer of step `j`: the rows given away, into the partner's landing rows. -/
theorem wp_rs_send (c : Dev nD) (j : Fin 6) {n : ℕ} (hn : n = nr j) {p : Dev nD} (hp : p = pr j c) {sS sR : DmaSem sig} (hS : sS = dsem 0 j) (hR : sR = dsem 1 j)
    {off off' : Fin 2 → ℕ} (ho : off = ![xo j c, 0]) (ho' : off' = ![so j, 0])
    {inb : ∀ a, off a + (![n, 1024] : Fin 2 → ℕ) a ≤ S2048x1024.size a} {inb' : ∀ a, off' a + (![n, 1024] : Fin 2 → ℕ) a ≤ S1792x1024.size a}
    {hs hs'}
    {hsc} {hsrc} {hdst} {hsem}
    (xs : List (Fin 4 × Fin 6)) {α : Type} {Q : α → sProp 𝕄} {kk : PUnit → Prog (TpuEff nD τ sig (Elt F) Λ₀ .tc) α} :
    iprop(recs P K c ∗ rsB j c ∗ oPts c (rows 2048 (xo j c) (nr j)) (preA P j c) ∗ (∃ g, cPts (pr j c) (slot j) g) ∗ owesAny c (Orem c ((1, j) :: xs)))
      ⊢ iprop(((waiting (F := F) 0 j c ∗ owesAny c (Orem c xs)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma ((oM : Memref sig .tc .vmem S2048x1024 .f32).slice (Rect.unit (s := S2048x1024) off ![n, 1024] inb) hs)
              (.remote (Dev.tc p : Thread nD τ) ((cM : Memref sig .tc .vmem S1792x1024 .f32).slice (Rect.unit (s := S1792x1024) off' ![n, 1024] inb') hs') (.dma sS) hsc)
              (.dma sR) hsrc hdst hsem) kk) Q) := by
  subst hn hp hS hR
  unfold rsB ready waiting owesAny
  iintro ⟨#HR, ⟨⟨Hat, Ht⟩, Htp⟩, Ho, ⟨%g, Hc⟩, ⟨%W, HO⟩⟩ Hk
  unfold oPts cPts
  rw [← o_set ho inb, show slot j = _ from (c_set ho' inb').symm]
  iapply (Rounds.wp_send_landing_pointsTo 𝒱₀ ER (bRd P) (c : Thread nD τ) none (κ₁ := K (c, .inr (0, j))) (κ₂ := K (pr j c, .inr (1, j)))
    (c' := (pr j c : Thread nD τ))
    (src := (oM : Memref sig .tc .vmem S2048x1024 .f32).slice (Rect.unit (s := S2048x1024) off ![nr j, 1024] inb) hs)
    (dst := (cM : Memref sig .tc .vmem S1792x1024 .f32).slice (Rect.unit (s := S1792x1024) off' ![nr j, 1024] inb') hs')
    (r₁ := 0) (r₂ := 0) (d₁ := 0) (d₂ := 0) (fs := preA P j c) (fd := g)
    (by rw [duties_dma]; exact Finset.mem_singleton_self _) (by rw [duties_dma]; exact Finset.mem_singleton_self _)
    () () (amt j) rfl (amount_dma P c 0 j 0) (amount_dma P (pr j c) 1 j 0) (Orem c xs) rfl (W := W)
    (by rw [payload_dma]; exact BI.Entails.refl _)
    (by
      rw [payload_dma]
      show _ ⊢ iprop((∃ g, ⌜Shift (so j) (ko j (pr j c)) (nr j) g (preA P j (pr j (pr j c)))⌝ ∗ cPts (F := F) (pr j c) (slot j) g)
        ∗ oPts (pr j (pr j c)) (rows 2048 (ko j (pr j c)) (nr j)) (preA P j (pr j (pr j c))))
      rw [pr_pr, show ko j (pr j c) = xo j c from ko_pr j c]
      unfold oPts cPts
      rw [← o_set ho inb, show slot j = _ from (c_set ho' inb').symm]
      iintro ⟨Hd, Hs⟩
      isplitl [Hd]
      · iexists _; isplitr; rotate_left; · iexact Hd
        ipureintro; exact landed_shift ho ho' inb inb' _ g
      · iexact Hs)) $$ [Ho Hc HO Ht Htp]
  · isplitr; · iapply (recs_inv P K c (c, .inr (0, j))); iexact HR
    isplitr; · iapply (recs_inv P K c (pr j c, .inr (1, j))); iexact HR
    isplitl [Ho]; · iexact Ho
    isplitl [Hc]; · iexact Hc
    isplitl [HO]; · iexact HO
    isplitl [Ht]; · iexact Ht
    isplitr; · iapply (recs_own P K c 0 j); iexact HR
    isplitl [Htp]; · iexact Htp
    iapply (recs_par P K c (dim j) 1 j); iexact HR
  iintro ⟨Hcr, HO⟩
  iapply Hk
  isplitl [Hat Hcr]
  · isplitl [Hat] <;> iassumption
  iexists W; iexact HO

/-- The all-gather transfer of step `j`: the finished rows kept at step `j`, into the same rows of the partner's result. -/
theorem wp_ag_send (c : Dev nD) (j : Fin 6) {n : ℕ} (hn : n = nr j) {p : Dev nD} (hp : p = pr j c) {sS sR : DmaSem sig} (hS : sS = dsem 2 j) (hR : sR = dsem 3 j)
    {off off' : Fin 2 → ℕ} (ho : off = ![ko j c, 0]) (ho' : off' = off)
    {inb : ∀ a, off a + (![n, 1024] : Fin 2 → ℕ) a ≤ S2048x1024.size a} {inb' : ∀ a, off' a + (![n, 1024] : Fin 2 → ℕ) a ≤ S2048x1024.size a}
    {hs hs'}
    {hsc} {hsrc} {hdst} {hsem} {g : Ix 2048 → F .f32}
    (xs : List (Fin 4 × Fin 6)) {α : Type} {Q : α → sProp 𝕄} {kk : PUnit → Prog (TpuEff nD τ sig (Elt F) Λ₀ .tc) α} :
    iprop(recs P K c ∗ agB j c ∗ oPts c (rows 2048 (ko j c) (nr j)) (totA P) ∗ oPts (pr j c) (rows 2048 (ko j c) (nr j)) g ∗ owesAny c (Orem c ((3, j) :: xs)))
      ⊢ iprop(((waiting (F := F) 2 j c ∗ owesAny c (Orem c xs)) -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma ((oM : Memref sig .tc .vmem S2048x1024 .f32).slice (Rect.unit (s := S2048x1024) off ![n, 1024] inb) hs)
              (.remote (Dev.tc p : Thread nD τ) ((oM : Memref sig .tc .vmem S2048x1024 .f32).slice (Rect.unit (s := S2048x1024) off' ![n, 1024] inb') hs') (.dma sS) hsc)
              (.dma sR) hsrc hdst hsem) kk) Q) := by
  subst hn hp hS hR ho'
  unfold agB ready waiting owesAny
  iintro ⟨#HR, ⟨⟨Hat, Ht⟩, Htp⟩, Ho, Hc, ⟨%W, HO⟩⟩ Hk
  unfold oPts
  rw [← o_set ho inb]
  iapply (Rounds.wp_send_pointsTo 𝒱₀ ER (bRd P) (c : Thread nD τ) none (κ₁ := K (c, .inr (2, j))) (κ₂ := K (pr j c, .inr (3, j)))
    (c' := (pr j c : Thread nD τ))
    (src := (oM : Memref sig .tc .vmem S2048x1024 .f32).slice (Rect.unit (s := S2048x1024) off' ![nr j, 1024] inb) hs)
    (dst := (oM : Memref sig .tc .vmem S2048x1024 .f32).slice (Rect.unit (s := S2048x1024) off' ![nr j, 1024] inb') hs')
    (r₁ := 0) (r₂ := 0) (d₁ := 0) (d₂ := 0) (fs := totA P) (fd := g)
    (by rw [duties_dma]; exact Finset.mem_singleton_self _) (by rw [duties_dma]; exact Finset.mem_singleton_self _)
    () () (amt j) rfl (amount_dma P c 2 j 0) (amount_dma P (pr j c) 3 j 0) (Orem c xs) rfl (W := W)
    (by
      rw [payload_dma]
      show _ ⊢ oPts c (rows 2048 (ko j c) (nr j)) (totA P)
      unfold oPts
      rw [← o_set ho inb])
    (by
      rw [payload_dma]
      show _ ⊢ oPts (pr j c) (rows 2048 (xo j (pr j c)) (nr j)) (totA P)
      rw [show xo j (pr j c) = ko j c from xo_pr j c]
      unfold oPts
      rw [← o_set ho inb]
      exact Entails.of_eq (pointsTo_congr fun i hi => sent_rows ho inb _ _ i (by rw [← o_set ho inb]; exact hi)))) $$ [Ho Hc HO Ht Htp]
  · isplitr; · iapply (recs_inv P K c (c, .inr (2, j))); iexact HR
    isplitr; · iapply (recs_inv P K c (pr j c, .inr (3, j))); iexact HR
    isplitl [Ho]; · iexact Ho
    isplitl [Hc]; · iexact Hc
    isplitl [HO]; · iexact HO
    isplitl [Ht]; · iexact Ht
    isplitr; · iapply (recs_own P K c 2 j); iexact HR
    isplitl [Htp]; · iexact Htp
    iapply (recs_par P K c (dim j) 3 j); iexact HR
  iintro ⟨Hcr, HO⟩
  iapply Hk
  isplitl [Hat Hcr]
  · isplitl [Hat] <;> iassumption
  iexists W; iexact HO

/-! ## The addition -/

/-- The sum stored over the rows kept is the partial sums after the step. -/
theorem add_rows (c : Dev nD) (j : Fin 6) {n : ℕ} (hn : n = nr j) {off off' : Fin 2 → ℕ} (ho : off = ![ko j c, 0]) (ho' : off' = ![so j, 0])
    (inb : ∀ a, off a + (![n, 1024] : Fin 2 → ℕ) a ≤ S2048x1024.size a) (inb' : ∀ a, off' a + (![n, 1024] : Fin 2 → ℕ) a ≤ S1792x1024.size a)
    {g : Ix 1792 → F .f32} (hg : Shift (so j) (ko j c) (nr j) g (preA P j (pr j c))) {f : Ix 2048 → F .f32} {w : (⟨2, ![n, 1024]⟩ : Shape).Idx → F .f32}
    (hw : ∀ x, w x = FloatOps.addf
      (((oM : Memref sig .tc .vmem S2048x1024 .f32).view.slice (Rect.unit (s := S2048x1024) off ![n, 1024] inb)).read (Elt F) (preA P j c) x)
      (((cM : Memref sig .tc .vmem S1792x1024 .f32).view.slice (Rect.unit (s := S1792x1024) off' ![n, 1024] inb')).read (Elt F) g x)) :
    ∀ i ∈ rows 2048 (ko j c) (nr j),
      ((oM : Memref sig .tc .vmem S2048x1024 .f32).view.slice (Rect.unit (s := S2048x1024) off ![n, 1024] inb)).write (Elt F) f w Finset.univ i = postA P j c i := by
  subst hn
  intro i hi
  rw [mem_rows] at hi
  have hi' := hi
  rw [← mem_rows, ← rect_set ho inb, ← Rect.map_emb_univ, Finset.mem_map] at hi'
  obtain ⟨x, -, rfl⟩ := hi'
  refine (View.write_emb_of_mem _ _ (Finset.mem_univ x)).trans ?_
  show w x = _
  rw [hw, postA, post_eq]
  have e1 := rows_emb ho inb x
  have e2 := rows_emb ho' inb' x
  have hx : (x 0).val < nr j := (x 0).isLt
  congr 1
  refine hg _ _ ?_ ?_ ?_ ?_
  · show so j ≤ ((Rect.unit (s := S1792x1024) off' ![nr j, 1024] inb').emb x 0).val; omega
  · show ((Rect.unit (s := S1792x1024) off' ![nr j, 1024] inb').emb x 0).val < _; omega
  · show ((Rect.unit (s := S2048x1024) off ![nr j, 1024] inb).emb x 0).val + _ = ((Rect.unit (s := S1792x1024) off' ![nr j, 1024] inb').emb x 0).val + _; omega
  · show ((Rect.unit (s := S2048x1024) off ![nr j, 1024] inb).emb x 1).val = ((Rect.unit (s := S1792x1024) off' ![nr j, 1024] inb').emb x 1).val; omega

/-- The addition of step `j`: the rows kept and the landed rows are read, and their sum stored over the rows kept. -/
theorem wp_add (c : Dev nD) (j : Fin 6) {n : ℕ} (hn : n = nr j)
    {off off' : Fin 2 → ℕ} (ho : off = ![ko j c, 0]) (ho' : off' = ![so j, 0])
    {inb : ∀ a, off a + (![n, 1024] : Fin 2 → ℕ) a ≤ S2048x1024.size a} {inb' : ∀ a, off' a + (![n, 1024] : Fin 2 → ℕ) a ≤ S1792x1024.size a}
    {h1 h2 h3 h4 h5} {pay : Vec F ⟨2, ![n, 1024]⟩ .f32 → Vec F ⟨2, ![n, 1024]⟩ .f32 → Vec F ⟨2, ![n, 1024]⟩ .f32}
    (hpay : ∀ a b x, pay a b x = FloatOps.addf (a x) (b x)) {α : Type} {Q : α → sProp 𝕄} {kk : PUnit → Prog (TpuEff nD τ sig (Elt F) Λ₀ .tc) α} :
    iprop(oPts c (rows 2048 (ko j c) (nr j)) (preA P j c) ∗ landed P j c)
      ⊢ iprop(((oPts c (rows 2048 (ko j c) (nr j)) (postA P j c) ∗ landed P j c)
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load (oM : Memref sig .tc .vmem S2048x1024 .f32) (Rect.unit (s := S2048x1024) off ![n, 1024] inb).toLoadRect h1) fun a =>
              .op (.load (cM : Memref sig .tc .vmem S1792x1024 .f32) (Rect.unit (s := S1792x1024) off' ![n, 1024] inb').toLoadRect h2) fun b =>
              .op (.load (oM : Memref sig .tc .vmem S2048x1024 .f32) (Rect.unit (s := S2048x1024) off ![n, 1024] inb).toLoadRect h3) fun _ =>
              .op (.store (oM : Memref sig .tc .vmem S2048x1024 .f32) (Rect.unit (s := S2048x1024) off ![n, 1024] inb) (pay a b) Finset.univ h4 h5) kk) Q) := by
  subst hn
  unfold landed
  iintro ⟨Ho, ⟨%g, %hg, Hc⟩⟩ Hk
  unfold oPts cPts
  have hso : ((oM : Memref sig .tc .vmem S2048x1024 .f32).view.slice (Rect.unit (s := S2048x1024) off ![nr j, 1024] inb)).set ⊆ rows 2048 (ko j c) (nr j) := by
    rw [o_set ho inb]
  have hsc : ((cM : Memref sig .tc .vmem S1792x1024 .f32).view.slice (Rect.unit (s := S1792x1024) off' ![nr j, 1024] inb')).set ⊆ slot j := by
    rw [c_set ho' inb']
  iapply (wp_load_rect 𝒱₀ (c : Thread nD τ) none Set.univ (m := oM) (r := Rect.unit (s := S2048x1024) off ![nr j, 1024] inb) hso) $$ Ho; iintro Ho
  iapply (wp_load_rect 𝒱₀ (c : Thread nD τ) none Set.univ (m := cM) (r := Rect.unit (s := S1792x1024) off' ![nr j, 1024] inb') hsc) $$ Hc; iintro Hc
  iapply (wp_load_rect 𝒱₀ (c : Thread nD τ) none Set.univ (m := oM) (r := Rect.unit (s := S2048x1024) off ![nr j, 1024] inb) hso) $$ Ho; iintro Ho
  iapply (wp_store 𝒱₀ (c : Thread nD τ) none Set.univ (m := oM) (r := Rect.unit (s := S2048x1024) off ![nr j, 1024] inb) (Mk := Finset.univ) hso) $$ Ho; iintro Ho
  iapply Hk
  isplitl [Ho]
  · rw [← pointsTo_congr (ℓ := (oM : Memref sig .tc .vmem S2048x1024 .f32).view.loc (c : Thread nD τ))
      (add_rows P c j rfl ho ho' inb inb' hg (f := preA P j c) (fun x => hpay _ _ x))]
    iexact Ho
  · iexists g; isplitr; · ipureintro; exact hg
    iexact Hc

end Cert.KernelIdealProof

end
-- ==== Proof.KernelIdealBody.lean ====
/-
# The all-reduce kernel's body

From what the launch gives a device — its cells, the credit it is owed, the tokens of the duties it pays, its input — the
kernel runs through its three signals, the barrier wait and the twelve transfers of the butterfly to the reduced array.
-/
module

public import proofs.«01_k».proof.Proof.KernelIdealSteps
public import Idealize.ShloMosaic.Lib.Pointwise.Reshape

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The kernel's device and row computations -/

theorem dev1_eq (c : Dev nD) : (⟨k1_dev1 c, k1_dev1_lt c⟩ : Dev nD) = par 0 c := Fin.ext (by revert c; decide +kernel)
theorem dev2_eq (c : Dev nD) : (⟨k1_dev2 c, k1_dev2_lt c⟩ : Dev nD) = par 1 c := Fin.ext (by revert c; decide +kernel)
theorem dev3_eq (c : Dev nD) : (⟨k1_dev3 c, k1_dev3_lt c⟩ : Dev nD) = par 2 c := Fin.ext (by revert c; decide +kernel)
theorem dev4_eq (c : Dev nD) : (⟨k1_dev4 c, k1_dev4_lt c⟩ : Dev nD) = pr 0 c := Fin.ext (by revert c; decide +kernel)
theorem dev5_eq (c : Dev nD) : (⟨k1_dev5 c, k1_dev5_lt c⟩ : Dev nD) = pr 3 c := Fin.ext (by revert c; decide +kernel)
theorem dev6_eq (c : Dev nD) : (⟨k1_dev6 c, k1_dev6_lt c⟩ : Dev nD) = pr 1 c := Fin.ext (by revert c; decide +kernel)
theorem dev7_eq (c : Dev nD) : (⟨k1_dev7 c, k1_dev7_lt c⟩ : Dev nD) = pr 4 c := Fin.ext (by revert c; decide +kernel)
theorem dev8_eq (c : Dev nD) : (⟨k1_dev8 c, k1_dev8_lt c⟩ : Dev nD) = pr 2 c := Fin.ext (by revert c; decide +kernel)
theorem dev9_eq (c : Dev nD) : (⟨k1_dev9 c, k1_dev9_lt c⟩ : Dev nD) = pr 5 c := Fin.ext (by revert c; decide +kernel)
theorem dev10_eq (c : Dev nD) : (⟨k1_dev10 c, k1_dev10_lt c⟩ : Dev nD) = pr 2 c := Fin.ext (by revert c; decide +kernel)
theorem dev11_eq (c : Dev nD) : (⟨k1_dev11 c, k1_dev11_lt c⟩ : Dev nD) = pr 5 c := Fin.ext (by revert c; decide +kernel)
theorem dev12_eq (c : Dev nD) : (⟨k1_dev12 c, k1_dev12_lt c⟩ : Dev nD) = pr 1 c := Fin.ext (by revert c; decide +kernel)
theorem dev13_eq (c : Dev nD) : (⟨k1_dev13 c, k1_dev13_lt c⟩ : Dev nD) = pr 4 c := Fin.ext (by revert c; decide +kernel)
theorem dev14_eq (c : Dev nD) : (⟨k1_dev14 c, k1_dev14_lt c⟩ : Dev nD) = pr 0 c := Fin.ext (by revert c; decide +kernel)
theorem dev15_eq (c : Dev nD) : (⟨k1_dev15 c, k1_dev15_lt c⟩ : Dev nD) = pr 3 c := Fin.ext (by revert c; decide +kernel)

theorem off1_eq (c : Dev nD) : k1_off1 c = ![xo 0 c, 0] := by revert c; decide +kernel
theorem off2_eq (c : Dev nD) : k1_off2 c = ![xo 3 c, 0] := by revert c; decide +kernel
theorem off3_eq (c : Dev nD) : k1_off3 c = ![ko 0 c, 0] := by revert c; decide +kernel
theorem off4_eq (c : Dev nD) : k1_off4 c = ![ko 3 c, 0] := by revert c; decide +kernel
theorem off5_eq (c : Dev nD) : k1_off5 c = ![xo 1 c, 0] := by revert c; decide +kernel
theorem off6_eq (c : Dev nD) : k1_off6 c = ![xo 4 c, 0] := by revert c; decide +kernel
theorem off7_eq (c : Dev nD) : k1_off7 c = ![ko 1 c, 0] := by revert c; decide +kernel
theorem off8_eq (c : Dev nD) : k1_off8 c = ![ko 4 c, 0] := by revert c; decide +kernel
theorem off9_eq (c : Dev nD) : k1_off9 c = ![xo 2 c, 0] := by revert c; decide +kernel
theorem off10_eq (c : Dev nD) : k1_off10 c = ![xo 5 c, 0] := by revert c; decide +kernel
theorem off11_eq (c : Dev nD) : k1_off11 c = ![ko 2 c, 0] := by revert c; decide +kernel
theorem off12_eq (c : Dev nD) : k1_off12 c = ![ko 5 c, 0] := by revert c; decide +kernel
theorem off13_eq (c : Dev nD) : k1_off13 c = ![ko 2 c, 0] := by revert c; decide +kernel
theorem off14_eq (c : Dev nD) : k1_off14 c = ![ko 5 c, 0] := by revert c; decide +kernel
theorem off15_eq (c : Dev nD) : k1_off15 c = ![ko 1 c, 0] := by revert c; decide +kernel
theorem off16_eq (c : Dev nD) : k1_off16 c = ![ko 4 c, 0] := by revert c; decide +kernel
theorem off17_eq (c : Dev nD) : k1_off17 c = ![ko 0 c, 0] := by revert c; decide +kernel
theorem off18_eq (c : Dev nD) : k1_off18 c = ![ko 3 c, 0] := by revert c; decide +kernel

/-! ## The landing buffer in its six parts -/

theorem bi_eq {A B : sProp 𝕄} (h : A ⊣⊢ B) : A = B := equiv_iff.mp ⟨h.1, h.2⟩

/-- Rows `S` of the landing buffer, at any contents. -/
def anyC (c : Dev nD) (S : Finset (Ix 1792)) : sProp 𝕄 := iprop(∃ f, cPts (F := F) c S f)

theorem anyC_cut (c : Dev nD) (o n n' : ℕ) :
    (anyC c (rows 1792 o (n + n')) : sProp 𝕄) = iprop(anyC c (rows 1792 o n) ∗ anyC c (rows 1792 (o + n) n')) := by
  have hd : Disjoint (rows 1792 o n) (rows 1792 (o + n) n') := rows_disjoint (by omega)
  refine bi_eq ⟨?_, ?_⟩
  · unfold anyC cPts
    rw [rows_append]
    iintro ⟨%f, H⟩
    ihave H := (pointsTo_union hd).1 $$ H
    icases H with ⟨H1, H2⟩
    isplitl [H1] <;> (iexists f; iassumption)
  · unfold anyC cPts
    rw [rows_append]
    iintro ⟨⟨%f, H1⟩, ⟨%g, H2⟩⟩
    iexists _
    iapply (pointsTo_join hd)
    isplitl [H1] <;> iassumption

theorem anyC_slots (c : Dev nD) : (anyC c Finset.univ : sProp 𝕄)
    = iprop(anyC c (slot 0) ∗ anyC c (slot 1) ∗ anyC c (slot 2) ∗ anyC c (slot 3) ∗ anyC c (slot 4) ∗ anyC c (slot 5)) := by
  rw [← rows_all 1792, show rows 1792 0 1792 = rows 1792 0 (512 + (256 + (128 + (512 + (256 + 128))))) from rfl,
    anyC_cut, anyC_cut, anyC_cut, anyC_cut, anyC_cut]
  rfl

theorem landed_any (P : Dev nD → Ix 2048 → F .f32) (j : Fin 6) (c : Dev nD) : landed P j c ⊢ anyC c (slot j) := by
  unfold landed anyC
  iintro ⟨%g, -, H⟩
  iexists g; iexact H

variable (P : Dev nD → Ix 2048 → F .f32) (K : Dev nD × CI → ℕ)

/-! ## The barrier -/

/-- The signal to the partner along dimension `d`: the device's landing rows that partner sends into. -/
theorem wp_sig (c : Dev nD) (d : Fin 3) {p : Dev nD} (hp : p = par d c) {n : ℕ} (hn : 1 = n) (O : CellTallies nD τ sig Unit)
    {α : Type} {Q : α → sProp 𝕄} {kk : PUnit → Prog (TpuEff nD τ sig (Elt F) Λ₀ .tc) α} :
    iprop(records P K ∗ reach c ∗ owesAny c (O + tallyAt (barCell (par d c)) () 1) ∗ dutyTok ER (barCell (par d c)) 0 d
        ∗ anyC c (slot (j0 d)) ∗ anyC c (slot (j1 d)))
      ⊢ iprop((owesAny c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (p, .tc) barS n) kk) Q) := by
  subst hp hn
  unfold owesAny
  iintro ⟨#HR, #Hc, ⟨%W, HO⟩, Ht, H0, H1⟩ Hk
  iapply (Rounds.wp_signal 𝒱₀ ER (bRd P) (c : Thread nD τ) none (dst := (par d c : Thread nD τ)) (κ := K (par d c, .inl ()))
      (d := d) (by rw [duties_bar]; exact Finset.mem_univ _) (amount_bar P (par d c) d) () O rfl (W := W)) $$ [HO Ht H0 H1]
  · isplitr; · iapply (inv_at P K (par d c, .inl ())); iexact HR
    isplitl [HO]; · iexact HO
    isplitl [Ht]; · iexact Ht
    isplitl [H0 H1]
    · rw [payload_bar]; unfold barPay anyC; rw [par_par]
      isplitl [H0]; · iexact H0
      isplitl [H1]; · iexact H1
      iexact Hc
    iapply (reached_bar P K (par d c)); iexact HR
  iintro HO
  iapply Hk; iexists W; iexact HO

/-- The wait for the three partners' signals. -/
theorem wp_bar (c : Dev nD) {n : ℕ} (hn : 3 = n) {α : Type} {Q : α → sProp 𝕄} {kk : PUnit → Prog (TpuEff nD τ sig (Elt F) Λ₀ .tc) α} :
    iprop(records P K ∗ levAts L lv ∗ owesAny c (Orem c sends) ∗ atPos ER (barCell c) 0 ∅ 0 ∗ cred (tallyAt (barCell c) () 3))
      ⊢ iprop(((owesAny c (Orem c sends) ∗ atPos ER (barCell c) (0 + 1) ∅ 0
            ∗ (anyC (pr 0 c) (slot 0) ∗ anyC (pr 5 c) (slot 5) ∗ reach (par 0 c)) ∗ (anyC (pr 1 c) (slot 1) ∗ anyC (pr 3 c) (slot 3) ∗ reach (par 1 c))
            ∗ anyC (pr 2 c) (slot 2) ∗ anyC (pr 4 c) (slot 4) ∗ reach (par 2 c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS n) kk) Q) := by
  subst hn
  unfold owesAny
  iintro ⟨#HR, #Hlev, ⟨%W, HO⟩, Hat, Hc⟩ Hk
  iapply (Rounds.wp_wait_rest_token 𝒱₀ ER (bRd P) (c : Thread nD τ) none (κ := K (c, .inl ()))
      (wpE_semWait_eq 𝒱₀ (c : Thread nD τ) none Set.univ) (Set.mem_univ _) () (O := Orem c sends) (W := W) (R := 0) (m := 0) (T := ∅)
      (by rw [expect_bar])) $$ [Hc HO Hat]
  · isplitr; · iapply (inv_at P K (c, .inl ())); iexact HR
    isplitl [Hc]; · iexact Hc
    isplitl [HO]; · iexact HO
    isplitr; · iapply (mayWait_Orem c (.reg barS) 1 rfl sends rlev_sends); iexact Hlev
    iexact Hat
  iintro ⟨HO, Hat, -, Hpay⟩
  ihave Hp := (Entails.of_eq (rest_bar P c)) $$ Hpay
  iapply Hk
  isplitl [HO]; · iexists _; iexact HO
  isplitl [Hat]; · iexact Hat
  iexact Hp

/-! ## Halves and ranges of the result -/

/-- The rows kept at step `j` are the range of step `j'`, the next of the same half. -/
theorem o_next (c : Dev nD) (j j' : Fin 6) (hk : kp j' c = ko j c) (hn : nr j = nr j' + nr j') (f : Ix 2048 → F .f32) :
    (oPts c (rows 2048 (ko j c) (nr j)) f : sProp 𝕄) = iprop(oPts c (rows 2048 (ko j' c) (nr j')) f ∗ oPts c (rows 2048 (xo j' c) (nr j')) f) := by
  rw [← hk, hn]; exact bi_eq (o_split c j' f)

/-- The result in its two halves, each in the two parts of its first step. -/
theorem o_halves (c : Dev nD) (f : Ix 2048 → F .f32) :
    (oPts c Finset.univ f : sProp 𝕄) = iprop((oPts c (rows 2048 (ko 0 c) (nr 0)) f ∗ oPts c (rows 2048 (xo 0 c) (nr 0)) f)
      ∗ oPts c (rows 2048 (ko 3 c) (nr 3)) f ∗ oPts c (rows 2048 (xo 3 c) (nr 3)) f) := by
  rw [← bi_eq (o_split c 0 f), ← bi_eq (o_split c 3 f)]
  show _ = iprop(oPts c (rows 2048 0 1024) f ∗ oPts c (rows 2048 1024 1024) f)
  have h : (Finset.univ : Finset (Ix 2048)) = rows 2048 0 1024 ∪ rows 2048 1024 1024 := (rows_all 2048).symm.trans (rows_append (k := 0) (n := 1024) (n' := 1024))
  rw [h]
  exact bi_eq (pointsTo_union (rows_disjoint (by omega)))

/-! ## The body -/

/-- A transfer cell waited on is closed: its counter at zero is the device's again. -/
theorem close (c : Dev nD) (k : Fin 4) (j : Fin 6) : iprop(records P K ∗ waited k j c) ⊢ (|={Set.univ}=> semVal (dcell c k j) 0 : sProp 𝕄) := by
  unfold waited
  iintro ⟨#HR, Hat⟩
  iapply (Rounds.cell_close ER (bRd P) (Set.mem_univ (K (c, .inr (k, j)))) (fun h => h) (R := 0 + 1) (duties_later P (dcell c k j)))
  isplitr; · iapply (inv_at P K (c, .inr (k, j))); iexact HR
  iexact Hat

/-- The input (staged) at its contents. -/
def xPts (c : Dev nD) (f : Ix 2048 → F .f32) : sProp 𝕄 :=
  (Memref.whole cc1_stg0_0 : Memref sig .tc .vmem S2048x1024 .f32).view.loc (c : Thread nD τ) ↦{fullShare} f

/-- What a device holds for step `j` at the start. -/
def stepB (j : Fin 6) (c : Dev nD) : sProp 𝕄 := iprop(rsB (F := F) j c ∗ waiting (F := F) 1 j c ∗ agB (F := F) j c ∗ waiting (F := F) 3 j c)
/-- … and at the end. -/
def stepE (j : Fin 6) (c : Dev nD) : sProp 𝕄 := iprop(waited (F := F) 0 j c ∗ waited (F := F) 1 j c ∗ waited (F := F) 2 j c ∗ waited (F := F) 3 j c)

/-- A device's cells, credits and tokens at the start. -/
def ghostB (c : Dev nD) : sProp 𝕄 :=
  iprop(atPos ER (barCell c) 0 ∅ 0 ∗ cred (tallyAt (barCell c) () 3)
    ∗ (dutyTok ER (barCell (par 0 c)) 0 0 ∗ dutyTok ER (barCell (par 1 c)) 0 1 ∗ dutyTok ER (barCell (par 2 c)) 0 2)
    ∗ stepB (F := F) 0 c ∗ stepB (F := F) 1 c ∗ stepB (F := F) 2 c ∗ stepB (F := F) 3 c ∗ stepB (F := F) 4 c ∗ stepB (F := F) 5 c)

def bodyPre (c : Dev nD) : sProp 𝕄 :=
  iprop(records P K ∗ reach c ∗ levAts L lv ∗ ghostB (F := F) c ∗ anyC c Finset.univ ∗ owesAny c (O₀ c) ∗ xPts c (P c) ∗ ∃ g, oPts c Finset.univ g)

/-- After the last wait: all cells waited on, the landing buffer whole, the result reduced. -/
def bodyEnd (c : Dev nD) : sProp 𝕄 :=
  iprop(atPos ER (barCell c) (0 + 1) ∅ 0
    ∗ (stepE (F := F) 0 c ∗ stepE (F := F) 1 c ∗ stepE (F := F) 2 c ∗ stepE (F := F) 3 c ∗ stepE (F := F) 4 c ∗ stepE (F := F) 5 c)
    ∗ anyC c Finset.univ ∗ owesAny c 0 ∗ xPts c (P c) ∗ oPts c Finset.univ (totA P))

theorem hz : (![0, 0] : Fin 2 → Nat) = fun _ => 0 := funext fun a => by fin_cases a <;> rfl

theorem read_x (f : Ix 2048 → F .f32) : (Memref.whole cc1_stg0_0 : Memref sig .tc .vmem S2048x1024 .f32).view.readAt (Elt F)
    (Rect.unit (s := S2048x1024) ![0, 0] ![2048, 1024] inb_S2048x1024_S2048x1024_0_0).toLoadRect f = f :=
  Memref.readAt_unit_zero (Elt F) cc1_stg0_0 hz _ f
theorem write_o (f w : Ix 2048 → F .f32) : ((oM : Memref sig .tc .vmem S2048x1024 .f32).access
    (Rect.unit (s := S2048x1024) ![0, 0] ![2048, 1024] inb_S2048x1024_S2048x1024_0_0) : View sig .tc _ _ _).write (Elt F) f w Finset.univ = w :=
  Memref.write_access_unit_zero_univ (Elt F) cc1_stg1_0 hz _ f w
theorem o_stored (c : Dev nD) (f : Ix 2048 → F .f32) :
    (iprop(((oM : Memref sig .tc .vmem S2048x1024 .f32).access (Rect.unit (s := S2048x1024) ![0, 0] ![2048, 1024] inb_S2048x1024_S2048x1024_0_0) :
      View sig .tc _ _ _).loc (c : Thread nD τ) ↦{fullShare} f) : sProp 𝕄) = oPts c Finset.univ f := rfl
theorem pay1_eq (x : Vec F S2048x1024 .f32) : k1_pay1 x = x := by
  unfold k1_pay1; exact shapeCast_id x _
theorem pay2_eq (a b : Vec F S512x1024 .f32) (i) : k1_pay2 a b i = FloatOps.addf (a i) (b i) := by
  unfold k1_pay2; rw [shapeCast_id]; rfl
theorem pay3_eq (a b : Vec F S512x1024 .f32) (i) : k1_pay3 a b i = FloatOps.addf (a i) (b i) := by
  unfold k1_pay3; rw [shapeCast_id]; rfl
theorem pay4_eq (a b : Vec F S256x1024 .f32) (i) : k1_pay4 a b i = FloatOps.addf (a i) (b i) := by
  unfold k1_pay4; rw [shapeCast_id]; rfl
theorem pay5_eq (a b : Vec F S256x1024 .f32) (i) : k1_pay5 a b i = FloatOps.addf (a i) (b i) := by
  unfold k1_pay5; rw [shapeCast_id]; rfl
theorem pay6_eq (a b : Vec F S128x1024 .f32) (i) : k1_pay6 a b i = FloatOps.addf (a i) (b i) := by
  unfold k1_pay6; rw [shapeCast_id]; rfl
theorem pay7_eq (a b : Vec F S128x1024 .f32) (i) : k1_pay7 a b i = FloatOps.addf (a i) (b i) := by
  unfold k1_pay7; rw [shapeCast_id]; rfl

theorem kp_1 (c : Dev nD) : kp 1 c = ko 0 c := (kp_ko c).1
theorem kp_2 (c : Dev nD) : kp 2 c = ko 1 c := (kp_ko c).2.1
theorem kp_4 (c : Dev nD) : kp 4 c = ko 3 c := (kp_ko c).2.2.1
theorem kp_5 (c : Dev nD) : kp 5 c = ko 4 c := (kp_ko c).2.2.2
theorem tot_2 (c : Dev nD) : ∀ i ∈ rows 2048 (ko 2 c) (nr 2), postA P 2 c i = totA P i := post_two _ P c
theorem tot_5 (c : Dev nD) : ∀ i ∈ rows 2048 (ko 5 c) (nr 5), postA P 5 c i = totA P i := post_five _ P c

/-- The own part and the partner's part of the final rows join into those kept at the step before. -/
theorem o_join (c : Dev nD) (j j' : Fin 6) (hk : kp j' c = ko j c) (hn : nr j = nr j' + nr j') :
    iprop(dmaPay P 2 j' c ∗ dmaPay P 3 j' c) ⊢ oPts c (rows 2048 (ko j c) (nr j)) (totA P) := Entails.of_eq (o_next c j j' hk hn (totA P)).symm

theorem o_whole (c : Dev nD) : iprop((dmaPay P 2 0 c ∗ dmaPay P 3 0 c) ∗ dmaPay P 2 3 c ∗ dmaPay P 3 3 c) ⊢ oPts c Finset.univ (totA P) :=
  Entails.of_eq (o_halves c (totA P)).symm
theorem pay_landed (j : Fin 6) (c : Dev nD) : dmaPay P 1 j c = iprop(landed P j c ∗ oPts (pr j c) (rows 2048 (ko j c) (nr j)) (preA P j (pr j c))) := rfl
theorem any_ex (c : Dev nD) (S : Finset (Ix 1792)) : (anyC (F := F) c S : sProp 𝕄) ⊢ iprop(∃ g, cPts c S g) := Entails.refl _

set_option maxHeartbeats 2000000 in
/-- The body, one rule per effect in program order. -/
theorem sound_core (c : Dev nD) (Kt : PUnit → sProp 𝕄) :
    iprop(bodyPre P K c ∗ (bodyEnd P c -∗ Kt ⟨⟩))
      ⊢ wp frame (wpE (defs₀ (F := F)) 𝒱₀ c none) Set.univ
          (cc1__allreduce_body (Memref.whole cc1_stg0_0) (Memref.isWhole_whole _) (Memref.whole cc1_stg1_0) (Memref.isWhole_whole _)
            (Memref.whole cc1_scratch0) (Memref.isWhole_whole _) cc1_scratch1 cc1_scratch2 cc1_scratch3 cc1_scratch4) Kt := by
  simp only [cc1__allreduce_body_eq_skeleton]; unfold cc1__allreduce_body_skel
  simp only [k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel]
  simp only [semSignalWord, semWaitWord, Prog.lift, Prog.bind_op, Prog.bind_ret, Prog.pure_eq_ret, wp_deviceId]
  unfold bodyPre ghostB stepB
  iintro ⟨⟨#HR, #Hc, #Hlev, ⟨HatB, HcB, ⟨Ht0, Ht1, Ht2⟩, ⟨HB0, HC0, HD0, HE0⟩, ⟨HB1, HC1, HD1, HE1⟩, ⟨HB2, HC2, HD2, HE2⟩, ⟨HB3, HC3, HD3, HE3⟩, ⟨HB4, HC4, HD4, HE4⟩, ⟨HB5, HC5, HD5, HE5⟩⟩,
    Hscr, HO, Hx, ⟨%g, Ho⟩⟩, Hk⟩
  ihave Hs := (Entails.of_eq (anyC_slots (F := F) c)) $$ Hscr
  icases Hs with ⟨Hs0, Hs1, Hs2, Hs3, Hs4, Hs5⟩
  iapply (wp_sig P K c 0 (dev1_eq c) rfl (Orem c sends + tallyAt (barCell (par 2 c)) () 1 + tallyAt (barCell (par 1 c)) () 1)) $$ [HO Ht0 Hs0 Hs5]
  · isplitr; · iexact HR
    isplitr; · iexact Hc
    isplitl [HO]; · iexact HO
    isplitl [Ht0]; · iexact Ht0
    isplitl [Hs0]; · iexact Hs0
    iexact Hs5
  iintro HO
  iapply (wp_sig P K c 1 (dev2_eq c) rfl (Orem c sends + tallyAt (barCell (par 2 c)) () 1)) $$ [HO Ht1 Hs1 Hs3]
  · isplitr; · iexact HR
    isplitr; · iexact Hc
    isplitl [HO]; · iexact HO
    isplitl [Ht1]; · iexact Ht1
    isplitl [Hs1]; · iexact Hs1
    iexact Hs3
  iintro HO
  iapply (wp_sig P K c 2 (dev3_eq c) rfl (Orem c sends)) $$ [HO Ht2 Hs2 Hs4]
  · isplitr; · iexact HR
    isplitr; · iexact Hc
    isplitl [HO]; · iexact HO
    isplitl [Ht2]; · iexact Ht2
    isplitl [Hs2]; · iexact Hs2
    iexact Hs4
  iintro HO
  iapply (wp_bar P K c rfl) $$ [HO HatB HcB]
  · isplitr; · iexact HR
    isplitr; · iexact Hlev
    isplitl [HO]; · iexact HO
    isplitl [HatB] <;> iassumption
  iintro ⟨HO, HatB, ⟨Hs0, Hs5, #Hn0⟩, ⟨Hs1, Hs3, #Hn1⟩, Hs2, Hs4, #Hn2⟩
  ihave #HN := (show iprop(records P K ∗ reach c ∗ reach (par 0 c) ∗ reach (par 1 c) ∗ reach (par 2 c)) ⊢ recs P K c from Entails.refl _) $$ []
  · isplitr; · iexact HR
    isplitr; · iexact Hc
    isplitr; · iexact Hn0
    isplitr; · iexact Hn1
    iexact Hn2
  unfold xPts oPts
  iapply (wp_load 𝒱₀ (c : Thread nD τ) none Set.univ (m := Memref.whole cc1_stg0_0) (Finset.subset_univ _)) $$ Hx; iintro Hx
  rw [read_x, pay1_eq]
  iapply (wp_load 𝒱₀ (c : Thread nD τ) none Set.univ (m := oM) (Finset.subset_univ _)) $$ Ho; iintro Ho
  iapply (wp_store 𝒱₀ (c : Thread nD τ) none Set.univ (m := oM) (r := Rect.unit (s := S2048x1024) ![0, 0] ![2048, 1024] inb_S2048x1024_S2048x1024_0_0) (Mk := Finset.univ) (Finset.subset_univ _)) $$ Ho; iintro Ho
  rw [write_o]
  ihave Ho := (Entails.of_eq (o_stored c (P c))) $$ Ho
  ihave Ho' := (show _ ⊢ iprop((oPts c (rows 2048 (ko 0 c) (nr 0)) (preA P 0 c) ∗ oPts c (rows 2048 (xo 0 c) (nr 0)) (preA P 0 c))
      ∗ oPts c (rows 2048 (ko 3 c) (nr 3)) (preA P 3 c) ∗ oPts c (rows 2048 (xo 3 c) (nr 3)) (preA P 3 c)) from Entails.of_eq (o_halves c (P c))) $$ Ho
  icases Ho' with ⟨⟨Hk0, Hx0⟩, Hk3, Hx3⟩
  iapply (wp_rs_send P K c 0 rfl (dev4_eq c) rfl rfl (off1_eq c) rfl [(1, 3), (1, 1), (1, 4), (1, 2), (1, 5), (3, 2), (3, 5), (3, 1), (3, 4), (3, 0), (3, 3)]) $$ [HB0 Hx0 Hs0 HO]
  · isplitr; · iexact HN
    isplitl [HB0]; · iexact HB0
    isplitl [Hx0]; · iexact Hx0
    isplitl [Hs0]; · iapply (any_ex (F := F)); iexact Hs0
    iexact HO
  iintro ⟨HB0, HO⟩
  iapply (wp_rs_send P K c 3 rfl (dev5_eq c) rfl rfl (off2_eq c) rfl [(1, 1), (1, 4), (1, 2), (1, 5), (3, 2), (3, 5), (3, 1), (3, 4), (3, 0), (3, 3)]) $$ [HB3 Hx3 Hs3 HO]
  · isplitr; · iexact HN
    isplitl [HB3]; · iexact HB3
    isplitl [Hx3]; · iexact Hx3
    isplitl [Hs3]; · iapply (any_ex (F := F)); iexact Hs3
    iexact HO
  iintro ⟨HB3, HO⟩
  iapply (wp_wait P K c 1 0 rfl rfl [(1, 1), (1, 4), (1, 2), (1, 5), (3, 2), (3, 5), (3, 1), (3, 4), (3, 0), (3, 3)] (by decide)) $$ [HC0 HO]
  · isplitr; · iexact HR
    isplitr; · iexact Hlev
    isplitl [HC0] <;> iassumption
  iintro ⟨HC0, HO, Hp⟩
  ihave Hp := (Entails.of_eq (pay_landed P 0 c)) $$ Hp
  icases Hp with ⟨Hl0, Hr0⟩
  iapply (wp_add P c 0 rfl (off3_eq c) rfl pay2_eq) $$ [Hk0 Hl0]
  · isplitl [Hk0] <;> iassumption
  iintro ⟨Hk0, Hl0⟩
  iapply (wp_wait P K c 0 0 rfl rfl [(1, 1), (1, 4), (1, 2), (1, 5), (3, 2), (3, 5), (3, 1), (3, 4), (3, 0), (3, 3)] (by decide)) $$ [HB0 HO]
  · isplitr; · iexact HR
    isplitr; · iexact Hlev
    isplitl [HB0] <;> iassumption
  iintro ⟨HB0, HO, -⟩
  ihave Hn := (show _ ⊢ iprop(oPts c (rows 2048 (ko 1 c) (nr 1)) (preA P 1 c) ∗ oPts c (rows 2048 (xo 1 c) (nr 1)) (preA P 1 c))
    from Entails.of_eq (o_next c 0 1 (kp_1 c) rfl (postA P 0 c))) $$ Hk0
  icases Hn with ⟨Hk1, Hx1⟩
  iapply (wp_wait P K c 1 3 rfl rfl [(1, 1), (1, 4), (1, 2), (1, 5), (3, 2), (3, 5), (3, 1), (3, 4), (3, 0), (3, 3)] (by decide)) $$ [HC3 HO]
  · isplitr; · iexact HR
    isplitr; · iexact Hlev
    isplitl [HC3] <;> iassumption
  iintro ⟨HC3, HO, Hp⟩
  ihave Hp := (Entails.of_eq (pay_landed P 3 c)) $$ Hp
  icases Hp with ⟨Hl3, Hr3⟩
  iapply (wp_add P c 3 rfl (off4_eq c) rfl pay3_eq) $$ [Hk3 Hl3]
  · isplitl [Hk3] <;> iassumption
  iintro ⟨Hk3, Hl3⟩
  iapply (wp_wait P K c 0 3 rfl rfl [(1, 1), (1, 4), (1, 2), (1, 5), (3, 2), (3, 5), (3, 1), (3, 4), (3, 0), (3, 3)] (by decide)) $$ [HB3 HO]
  · isplitr; · iexact HR
    isplitr; · iexact Hlev
    isplitl [HB3] <;> iassumption
  iintro ⟨HB3, HO, -⟩
  ihave Hn := (show _ ⊢ iprop(oPts c (rows 2048 (ko 4 c) (nr 4)) (preA P 4 c) ∗ oPts c (rows 2048 (xo 4 c) (nr 4)) (preA P 4 c))
    from Entails.of_eq (o_next c 3 4 (kp_4 c) rfl (postA P 3 c))) $$ Hk3
  icases Hn with ⟨Hk4, Hx4⟩
  iapply (wp_rs_send P K c 1 rfl (dev6_eq c) rfl rfl (off5_eq c) rfl [(1, 4), (1, 2), (1, 5), (3, 2), (3, 5), (3, 1), (3, 4), (3, 0), (3, 3)]) $$ [HB1 Hx1 Hs1 HO]
  · isplitr; · iexact HN
    isplitl [HB1]; · iexact HB1
    isplitl [Hx1]; · iexact Hx1
    isplitl [Hs1]; · iapply (any_ex (F := F)); iexact Hs1
    iexact HO
  iintro ⟨HB1, HO⟩
  iapply (wp_rs_send P K c 4 rfl (dev7_eq c) rfl rfl (off6_eq c) rfl [(1, 2), (1, 5), (3, 2), (3, 5), (3, 1), (3, 4), (3, 0), (3, 3)]) $$ [HB4 Hx4 Hs4 HO]
  · isplitr; · iexact HN
    isplitl [HB4]; · iexact HB4
    isplitl [Hx4]; · iexact Hx4
    isplitl [Hs4]; · iapply (any_ex (F := F)); iexact Hs4
    iexact HO
  iintro ⟨HB4, HO⟩
  iapply (wp_wait P K c 1 1 rfl rfl [(1, 2), (1, 5), (3, 2), (3, 5), (3, 1), (3, 4), (3, 0), (3, 3)] (by decide)) $$ [HC1 HO]
  · isplitr; · iexact HR
    isplitr; · iexact Hlev
    isplitl [HC1] <;> iassumption
  iintro ⟨HC1, HO, Hp⟩
  ihave Hp := (Entails.of_eq (pay_landed P 1 c)) $$ Hp
  icases Hp with ⟨Hl1, Hr1⟩
  iapply (wp_add P c 1 rfl (off7_eq c) rfl pay4_eq) $$ [Hk1 Hl1]
  · isplitl [Hk1] <;> iassumption
  iintro ⟨Hk1, Hl1⟩
  iapply (wp_wait P K c 0 1 rfl rfl [(1, 2), (1, 5), (3, 2), (3, 5), (3, 1), (3, 4), (3, 0), (3, 3)] (by decide)) $$ [HB1 HO]
  · isplitr; · iexact HR
    isplitr; · iexact Hlev
    isplitl [HB1] <;> iassumption
  iintro ⟨HB1, HO, -⟩
  ihave Hn := (show _ ⊢ iprop(oPts c (rows 2048 (ko 2 c) (nr 2)) (preA P 2 c) ∗ oPts c (rows 2048 (xo 2 c) (nr 2)) (preA P 2 c))
    from Entails.of_eq (o_next c 1 2 (kp_2 c) rfl (postA P 1 c))) $$ Hk1
  icases Hn with ⟨Hk2, Hx2⟩
  iapply (wp_wait P K c 1 4 rfl rfl [(1, 2), (1, 5), (3, 2), (3, 5), (3, 1), (3, 4), (3, 0), (3, 3)] (by decide)) $$ [HC4 HO]
  · isplitr; · iexact HR
    isplitr; · iexact Hlev
    isplitl [HC4] <;> iassumption
  iintro ⟨HC4, HO, Hp⟩
  ihave Hp := (Entails.of_eq (pay_landed P 4 c)) $$ Hp
  icases Hp with ⟨Hl4, Hr4⟩
  iapply (wp_add P c 4 rfl (off8_eq c) rfl pay5_eq) $$ [Hk4 Hl4]
  · isplitl [Hk4] <;> iassumption
  iintro ⟨Hk4, Hl4⟩
  iapply (wp_wait P K c 0 4 rfl rfl [(1, 2), (1, 5), (3, 2), (3, 5), (3, 1), (3, 4), (3, 0), (3, 3)] (by decide)) $$ [HB4 HO]
  · isplitr; · iexact HR
    isplitr; · iexact Hlev
    isplitl [HB4] <;> iassumption
  iintro ⟨HB4, HO, -⟩
  ihave Hn := (show _ ⊢ iprop(oPts c (rows 2048 (ko 5 c) (nr 5)) (preA P 5 c) ∗ oPts c (rows 2048 (xo 5 c) (nr 5)) (preA P 5 c))
    from Entails.of_eq (o_next c 4 5 (kp_5 c) rfl (postA P 4 c))) $$ Hk4
  icases Hn with ⟨Hk5, Hx5⟩
  iapply (wp_rs_send P K c 2 rfl (dev8_eq c) rfl rfl (off9_eq c) rfl [(1, 5), (3, 2), (3, 5), (3, 1), (3, 4), (3, 0), (3, 3)]) $$ [HB2 Hx2 Hs2 HO]
  · isplitr; · iexact HN
    isplitl [HB2]; · iexact HB2
    isplitl [Hx2]; · iexact Hx2
    isplitl [Hs2]; · iapply (any_ex (F := F)); iexact Hs2
    iexact HO
  iintro ⟨HB2, HO⟩
  iapply (wp_rs_send P K c 5 rfl (dev9_eq c) rfl rfl (off10_eq c) rfl [(3, 2), (3, 5), (3, 1), (3, 4), (3, 0), (3, 3)]) $$ [HB5 Hx5 Hs5 HO]
  · isplitr; · iexact HN
    isplitl [HB5]; · iexact HB5
    isplitl [Hx5]; · iexact Hx5
    isplitl [Hs5]; · iapply (any_ex (F := F)); iexact Hs5
    iexact HO
  iintro ⟨HB5, HO⟩
  iapply (wp_wait P K c 1 2 rfl rfl [(3, 2), (3, 5), (3, 1), (3, 4), (3, 0), (3, 3)] (by decide)) $$ [HC2 HO]
  · isplitr; · iexact HR
    isplitr; · iexact Hlev
    isplitl [HC2] <;> iassumption
  iintro ⟨HC2, HO, Hp⟩
  ihave Hp := (Entails.of_eq (pay_landed P 2 c)) $$ Hp
  icases Hp with ⟨Hl2, Hr2⟩
  iapply (wp_add P c 2 rfl (off11_eq c) rfl pay6_eq) $$ [Hk2 Hl2]
  · isplitl [Hk2] <;> iassumption
  iintro ⟨Hk2, Hl2⟩
  iapply (wp_wait P K c 0 2 rfl rfl [(3, 2), (3, 5), (3, 1), (3, 4), (3, 0), (3, 3)] (by decide)) $$ [HB2 HO]
  · isplitr; · iexact HR
    isplitr; · iexact Hlev
    isplitl [HB2] <;> iassumption
  iintro ⟨HB2, HO, -⟩
  ihave Hk2 := (Entails.of_eq (o_congr c (tot_2 P c))) $$ Hk2
  iapply (wp_wait P K c 1 5 rfl rfl [(3, 2), (3, 5), (3, 1), (3, 4), (3, 0), (3, 3)] (by decide)) $$ [HC5 HO]
  · isplitr; · iexact HR
    isplitr; · iexact Hlev
    isplitl [HC5] <;> iassumption
  iintro ⟨HC5, HO, Hp⟩
  ihave Hp := (Entails.of_eq (pay_landed P 5 c)) $$ Hp
  icases Hp with ⟨Hl5, Hr5⟩
  iapply (wp_add P c 5 rfl (off12_eq c) rfl pay7_eq) $$ [Hk5 Hl5]
  · isplitl [Hk5] <;> iassumption
  iintro ⟨Hk5, Hl5⟩
  iapply (wp_wait P K c 0 5 rfl rfl [(3, 2), (3, 5), (3, 1), (3, 4), (3, 0), (3, 3)] (by decide)) $$ [HB5 HO]
  · isplitr; · iexact HR
    isplitr; · iexact Hlev
    isplitl [HB5] <;> iassumption
  iintro ⟨HB5, HO, -⟩
  ihave Hk5 := (Entails.of_eq (o_congr c (tot_5 P c))) $$ Hk5
  iapply (wp_ag_send P K c 2 rfl (dev10_eq c) rfl rfl (off13_eq c) rfl [(3, 5), (3, 1), (3, 4), (3, 0), (3, 3)]) $$ [HD2 Hk2 Hr2 HO]
  · isplitr; · iexact HN
    isplitl [HD2]; · iexact HD2
    isplitl [Hk2]; · iexact Hk2
    isplitl [Hr2]; · iexact Hr2
    iexact HO
  iintro ⟨HD2, HO⟩
  iapply (wp_ag_send P K c 5 rfl (dev11_eq c) rfl rfl (off14_eq c) rfl [(3, 1), (3, 4), (3, 0), (3, 3)]) $$ [HD5 Hk5 Hr5 HO]
  · isplitr; · iexact HN
    isplitl [HD5]; · iexact HD5
    isplitl [Hk5]; · iexact Hk5
    isplitl [Hr5]; · iexact Hr5
    iexact HO
  iintro ⟨HD5, HO⟩
  iapply (wp_wait P K c 3 2 rfl rfl [(3, 1), (3, 4), (3, 0), (3, 3)] (by decide)) $$ [HE2 HO]
  · isplitr; · iexact HR
    isplitr; · iexact Hlev
    isplitl [HE2] <;> iassumption
  iintro ⟨HE2, HO, Hx2⟩
  iapply (wp_wait P K c 2 2 rfl rfl [(3, 1), (3, 4), (3, 0), (3, 3)] (by decide)) $$ [HD2 HO]
  · isplitr; · iexact HR
    isplitr; · iexact Hlev
    isplitl [HD2] <;> iassumption
  iintro ⟨HD2, HO, Hk2⟩
  ihave Hk1 := (o_join P c 1 2 (kp_2 c) rfl) $$ [Hk2 Hx2]
  · isplitl [Hk2] <;> iassumption
  iapply (wp_wait P K c 3 5 rfl rfl [(3, 1), (3, 4), (3, 0), (3, 3)] (by decide)) $$ [HE5 HO]
  · isplitr; · iexact HR
    isplitr; · iexact Hlev
    isplitl [HE5] <;> iassumption
  iintro ⟨HE5, HO, Hx5⟩
  iapply (wp_wait P K c 2 5 rfl rfl [(3, 1), (3, 4), (3, 0), (3, 3)] (by decide)) $$ [HD5 HO]
  · isplitr; · iexact HR
    isplitr; · iexact Hlev
    isplitl [HD5] <;> iassumption
  iintro ⟨HD5, HO, Hk5⟩
  ihave Hk4 := (o_join P c 4 5 (kp_5 c) rfl) $$ [Hk5 Hx5]
  · isplitl [Hk5] <;> iassumption
  iapply (wp_ag_send P K c 1 rfl (dev12_eq c) rfl rfl (off15_eq c) rfl [(3, 4), (3, 0), (3, 3)]) $$ [HD1 Hk1 Hr1 HO]
  · isplitr; · iexact HN
    isplitl [HD1]; · iexact HD1
    isplitl [Hk1]; · iexact Hk1
    isplitl [Hr1]; · iexact Hr1
    iexact HO
  iintro ⟨HD1, HO⟩
  iapply (wp_ag_send P K c 4 rfl (dev13_eq c) rfl rfl (off16_eq c) rfl [(3, 0), (3, 3)]) $$ [HD4 Hk4 Hr4 HO]
  · isplitr; · iexact HN
    isplitl [HD4]; · iexact HD4
    isplitl [Hk4]; · iexact Hk4
    isplitl [Hr4]; · iexact Hr4
    iexact HO
  iintro ⟨HD4, HO⟩
  iapply (wp_wait P K c 3 1 rfl rfl [(3, 0), (3, 3)] (by decide)) $$ [HE1 HO]
  · isplitr; · iexact HR
    isplitr; · iexact Hlev
    isplitl [HE1] <;> iassumption
  iintro ⟨HE1, HO, Hx1⟩
  iapply (wp_wait P K c 2 1 rfl rfl [(3, 0), (3, 3)] (by decide)) $$ [HD1 HO]
  · isplitr; · iexact HR
    isplitr; · iexact Hlev
    isplitl [HD1] <;> iassumption
  iintro ⟨HD1, HO, Hk1⟩
  ihave Hk0 := (o_join P c 0 1 (kp_1 c) rfl) $$ [Hk1 Hx1]
  · isplitl [Hk1] <;> iassumption
  iapply (wp_wait P K c 3 4 rfl rfl [(3, 0), (3, 3)] (by decide)) $$ [HE4 HO]
  · isplitr; · iexact HR
    isplitr; · iexact Hlev
    isplitl [HE4] <;> iassumption
  iintro ⟨HE4, HO, Hx4⟩
  iapply (wp_wait P K c 2 4 rfl rfl [(3, 0), (3, 3)] (by decide)) $$ [HD4 HO]
  · isplitr; · iexact HR
    isplitr; · iexact Hlev
    isplitl [HD4] <;> iassumption
  iintro ⟨HD4, HO, Hk4⟩
  ihave Hk3 := (o_join P c 3 4 (kp_4 c) rfl) $$ [Hk4 Hx4]
  · isplitl [Hk4] <;> iassumption
  iapply (wp_ag_send P K c 0 rfl (dev14_eq c) rfl rfl (off17_eq c) rfl [(3, 3)]) $$ [HD0 Hk0 Hr0 HO]
  · isplitr; · iexact HN
    isplitl [HD0]; · iexact HD0
    isplitl [Hk0]; · iexact Hk0
    isplitl [Hr0]; · iexact Hr0
    iexact HO
  iintro ⟨HD0, HO⟩
  iapply (wp_ag_send P K c 3 rfl (dev15_eq c) rfl rfl (off18_eq c) rfl []) $$ [HD3 Hk3 Hr3 HO]
  · isplitr; · iexact HN
    isplitl [HD3]; · iexact HD3
    isplitl [Hk3]; · iexact Hk3
    isplitl [Hr3]; · iexact Hr3
    iexact HO
  iintro ⟨HD3, HO⟩
  iapply (wp_wait P K c 3 0 rfl rfl [] (by decide)) $$ [HE0 HO]
  · isplitr; · iexact HR
    isplitr; · iexact Hlev
    isplitl [HE0] <;> iassumption
  iintro ⟨HE0, HO, Hx0⟩
  iapply (wp_wait P K c 2 0 rfl rfl [] (by decide)) $$ [HD0 HO]
  · isplitr; · iexact HR
    isplitr; · iexact Hlev
    isplitl [HD0] <;> iassumption
  iintro ⟨HD0, HO, Hk0⟩
  iapply (wp_wait P K c 3 3 rfl rfl [] (by decide)) $$ [HE3 HO]
  · isplitr; · iexact HR
    isplitr; · iexact Hlev
    isplitl [HE3] <;> iassumption
  iintro ⟨HE3, HO, Hx3⟩
  iapply (wp_wait P K c 2 3 rfl rfl [] (by decide)) $$ [HD3 HO]
  · isplitr; · iexact HR
    isplitr; · iexact Hlev
    isplitl [HD3] <;> iassumption
  iintro ⟨HD3, HO, Hk3⟩
  rw [wp_ret]; imodintro
  iapply Hk
  unfold bodyEnd stepE
  isplitl [HatB]; · iexact HatB
  isplitl [HB0 HC0 HD0 HE0 HB1 HC1 HD1 HE1 HB2 HC2 HD2 HE2 HB3 HC3 HD3 HE3 HB4 HC4 HD4 HE4 HB5 HC5 HD5 HE5]
  · isplitl [HB0 HC0 HD0 HE0]; · isplitl [HB0]; · iexact HB0
                                 isplitl [HC0]; · iexact HC0
                                 isplitl [HD0] <;> iassumption
    isplitl [HB1 HC1 HD1 HE1]; · isplitl [HB1]; · iexact HB1
                                 isplitl [HC1]; · iexact HC1
                                 isplitl [HD1] <;> iassumption
    isplitl [HB2 HC2 HD2 HE2]; · isplitl [HB2]; · iexact HB2
                                 isplitl [HC2]; · iexact HC2
                                 isplitl [HD2] <;> iassumption
    isplitl [HB3 HC3 HD3 HE3]; · isplitl [HB3]; · iexact HB3
                                 isplitl [HC3]; · iexact HC3
                                 isplitl [HD3] <;> iassumption
    isplitl [HB4 HC4 HD4 HE4]; · isplitl [HB4]; · iexact HB4
                                 isplitl [HC4]; · iexact HC4
                                 isplitl [HD4] <;> iassumption
    isplitl [HB5]; · iexact HB5
    isplitl [HC5]; · iexact HC5
    isplitl [HD5] <;> iassumption
  isplitl [Hl0 Hl1 Hl2 Hl3 Hl4 Hl5]
  · rw [anyC_slots]
    isplitl [Hl0]; · iapply (landed_any P 0 c); iexact Hl0
    isplitl [Hl1]; · iapply (landed_any P 1 c); iexact Hl1
    isplitl [Hl2]; · iapply (landed_any P 2 c); iexact Hl2
    isplitl [Hl3]; · iapply (landed_any P 3 c); iexact Hl3
    isplitl [Hl4]; · iapply (landed_any P 4 c); iexact Hl4
    iapply (landed_any P 5 c); iexact Hl5
  isplitl [HO]; · iexact HO
  isplitl [Hx]; · unfold xPts; iexact Hx
  iapply (o_whole P c)
  isplitl [Hk0 Hx0]
  · isplitl [Hk0] <;> iassumption
  · isplitl [Hk3] <;> iassumption

end Cert.KernelIdealProof

end
-- ==== Proof.KernelIdealTalk.lean ====
/-
# The all-reduce kernel's region

What the all-reduce kernel starts from — its cells, the records of everyone's, the tokens it pays with and the credits it is
owed —, the opening of its transfer cells as it starts, and its body in the one region that runs it.
-/
module

public import proofs.«01_k».proof.Proof.KernelIdealBody
public import proofs.«01_k».proof.Proof.Gen.KernelIdeal.Points
public import proofs.«01_k».proof.Proof.Gen.KernelIdeal.Launch
public import Idealize.ShloMosaic.Lib.Pipeline.Value
public import Idealize.ShloMosaic.Lib.Pipeline.ValueKit
public import Idealize.ShloMosaic.Lib.Pipeline.RegionTalk

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## Cells and tokens -/

/-- The kernel's own transfer semaphores, in order. -/
def osem (n : Fin 24) : SemLoc sig := .dma ⟨base + n.val, by have := n.isLt; show _ < 36; unfold base; omega⟩
theorem osem_eq (k : Fin 4) (j : Fin 6) : osem (finProdFinEquiv (k, j)) = .dma (dsem k j) := by
  unfold osem dsem; congr 1; apply Fin.ext
  show base + (j.val + 6 * k.val) = base + 6 * k.val + j.val; omega
theorem ownSemFacts : Pipeline.OwnSemFacts cfg1.spec osem := by decide

theorem dsem_inj {k k' : Fin 4} {j j' : Fin 6} (h : dsem k j = dsem k' j') : k = k' ∧ j = j' :=
  ⟨by rw [← dk_dsem k j, h, dk_dsem], by rw [← dj_dsem k j, h, dj_dsem]⟩
theorem cell_dev {a b : Dev nD} {s s' : SemLoc sig} (h : (((a : Thread nD τ), s) : GSem nD τ sig) = ((b : Thread nD τ), s')) : a = b ∧ s = s' :=
  ⟨congrArg (fun g : GSem nD τ sig => g.1.1) h, congrArg Prod.snd h⟩
theorem dcell_inj {c c' : Dev nD} {k k' : Fin 4} {j j' : Fin 6} (h : dcell c k j = dcell c' k' j') : c = c' ∧ k = k' ∧ j = j' := by
  obtain ⟨h1, h2⟩ := cell_dev h
  exact ⟨h1, dsem_inj (SemLoc.dma.inj h2)⟩
theorem bar_ne_dcell {c c' : Dev nD} {k : Fin 4} {j : Fin 6} : barCell c ≠ dcell c' k j := fun h => by cases (cell_dev h).2

theorem kcell_injective : Function.Injective (kcell : Dev nD × CI → GSem nD τ sig) := by
  rintro ⟨c, _ | ⟨k, j⟩⟩ ⟨c', _ | ⟨k', j'⟩⟩ h
  · obtain rfl := (cell_dev h).1; rfl
  · exact absurd h bar_ne_dcell
  · exact absurd h.symm bar_ne_dcell
  · obtain ⟨rfl, rfl, rfl⟩ := dcell_inj h; rfl
/-- The duties of a device's cells: its barrier's three, one of each transfer cell. -/
abbrev TI : Type := Fin 3 ⊕ (Fin 4 × Fin 6)
def tokOf : Dev nD × TI → GSem nD τ sig × ℕ × Fin 3
  | (c, .inl d) => (barCell c, 0, d)
  | (c, .inr (k, j)) => (dcell c k j, 0, 0)
theorem tokOf_injective : Function.Injective tokOf := by
  rintro ⟨c, d | ⟨k, j⟩⟩ ⟨c', d' | ⟨k', j'⟩⟩ h
  · have h1 := (cell_dev (congrArg Prod.fst h)).1
    have h2 : d = d' := congrArg (fun x : GSem nD τ sig × ℕ × Fin 3 => x.2.2) h
    rw [h1, h2]
  · exact absurd (congrArg Prod.fst h) bar_ne_dcell
  · exact absurd (congrArg Prod.fst h).symm bar_ne_dcell
  · obtain ⟨rfl, rfl, rfl⟩ := dcell_inj (congrArg Prod.fst h); rfl
/-- The token of duty `t` of device `c`. -/
def tok (c : Dev nD) (t : TI) : sProp 𝕄 := dutyTok ER (tokOf (c, t)).1 (tokOf (c, t)).2.1 (tokOf (c, t)).2.2
def posn (c : Dev nD) (k : CI) : sProp 𝕄 := atPos ER (kcell (c, k)) 0 ∅ 0

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The counters -/

theorem ownSems0_eq (c : Dev nD) : (Pipeline.ownSems0 (Ix := Unit) (Name := ℕ) (U := UU) (Lvl := ℕ) (Val := Elt F) (τ := τ) osem c : sProp 𝕄)
    = bigSep Finset.univ fun kj : Fin 4 × Fin 6 => semVal (dcell c kj.1 kj.2) 0 := by
  refine (bigSep_univ_equiv (finProdFinEquiv (m := 4) (n := 6)) fun n : Fin 24 => (semVal ((c : Thread nD τ), osem n) 0 : sProp 𝕄)).trans ?_
  exact bigSep_congr fun kj _ => by rw [show osem (finProdFinEquiv kj) = .dma (dsem kj.1 kj.2) from osem_eq kj.1 kj.2]
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sum_CI (Φ : CI → sProp 𝕄) : bigSep Finset.univ Φ = iprop(Φ (.inl ()) ∗ bigSep Finset.univ fun kj : Fin 4 × Fin 6 => Φ (.inr kj)) := by
  refine (bigSep_univ_sum Φ).trans ?_
  rw [show (bigSep Finset.univ fun a : Unit => Φ (.inl a)) = Φ (.inl ()) from bigSep_singleton]; rfl

/-! ## Dealing the tokens -/

/-- Summed over all devices, a family over the partners is the family. -/
theorem around {I : Type} [Fintype I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm, bigSep_univ_comm (fun (c : Dev nD) (i : I) => Φ i (e i c))]
  exact bigSep_congr fun i _ => bigSep_univ_equiv (e i) (Φ i)

/-- A family over kinds and steps, step by step. -/
theorem by_step (Φ : Fin 4 × Fin 6 → sProp 𝕄) : bigSep Finset.univ Φ
    = iprop((bigSep Finset.univ fun j : Fin 6 => Φ (0, j)) ∗ (bigSep Finset.univ fun j : Fin 6 => Φ (1, j))
      ∗ (bigSep Finset.univ fun j : Fin 6 => Φ (2, j)) ∗ bigSep Finset.univ fun j : Fin 6 => Φ (3, j)) := by
  rw [bigSep_univ_prod, bigSep_four]

/-- A device's tokens, its barrier's first. -/
theorem sum_TI (Φ : TI → sProp 𝕄) : bigSep Finset.univ Φ
    = iprop((bigSep Finset.univ fun d : Fin 3 => Φ (.inl d)) ∗ bigSep Finset.univ fun kj : Fin 4 × Fin 6 => Φ (.inr kj)) := bigSep_univ_sum Φ

/-- The tokens of the duties device `c` pays. -/
def payToks (c : Dev nD) : sProp 𝕄 :=
  iprop((bigSep Finset.univ fun d : Fin 3 => tok (F := F) (par d c) (.inl d))
    ∗ (bigSep Finset.univ fun j : Fin 6 => tok (F := F) c (.inr (0, j))) ∗ (bigSep Finset.univ fun j : Fin 6 => tok (F := F) (pr j c) (.inr (1, j)))
    ∗ (bigSep Finset.univ fun j : Fin 6 => tok (F := F) c (.inr (2, j))) ∗ bigSep Finset.univ fun j : Fin 6 => tok (F := F) (pr j c) (.inr (3, j)))

theorem toks_around : (bigSep Finset.univ fun c : Dev nD => bigSep Finset.univ fun t : TI => tok (F := F) c t) = bigSep Finset.univ fun c : Dev nD => payToks (F := F) c := by
  unfold payToks
  simp only [sum_TI, by_step, bigSep_sep']
  rw [around parEquiv fun d c => tok (F := F) c (.inl d), around (fun j => parEquiv (dim j)) fun j c => tok (F := F) c (.inr (1, j)),
    around (fun j => parEquiv (dim j)) fun j c => tok (F := F) c (.inr (3, j))]
  rfl

/-- A device's positions once its transfer cells are open, and the tokens it pays with. -/
def linear (c : Dev nD) : sProp 𝕄 := iprop((bigSep Finset.univ fun k : CI => posn (F := F) c k) ∗ payToks (F := F) c)

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

theorem bundles (c : Dev nD) : linear (F := F) c ⊢ iprop(atPos ER (barCell c) 0 ∅ 0
    ∗ (dutyTok ER (barCell (par 0 c)) 0 0 ∗ dutyTok ER (barCell (par 1 c)) 0 1 ∗ dutyTok ER (barCell (par 2 c)) 0 2)
    ∗ bigSep Finset.univ fun j : Fin 6 => iprop(rsB (F := F) j c ∗ atPos ER (dcell c 1 j) 0 ∅ 0 ∗ agB (F := F) j c ∗ atPos ER (dcell c 3 j) 0 ∅ 0)) := by
  unfold linear payToks rsB agB ready
  simp only [bigSep_sep']
  rw [sum_CI, by_step, bigSep_three]
  unfold posn tok
  iintro ⟨⟨Hb, A0, A1, A2, A3⟩, Ht, T0, T1, T2, T3⟩
  isplitl [Hb]; · iexact Hb
  isplitl [Ht]
  · icases Ht with ⟨T0, T1, T2⟩
    isplitl [T0]; · iexact T0
    isplitl [T1]; · iexact T1
    iexact T2
  isplitl [A0 T0 T1]
  · isplitl [A0 T0]
    · isplitl [A0]; · iexact A0
      iexact T0
    iexact T1
  isplitl [A1]; · iexact A1
  isplitl [A2 T2 T3]
  · isplitl [A2 T2]
    · isplitl [A2]; · iexact A2
      iexact T2
    iexact T3
  iexact A3

/-! ## The start -/

/-- The credits a device is owed at launch. -/
def creds (c : Dev nD) : sProp 𝕄 :=
  iprop(cred (tallyAt (barCell c) () 3)
    ∗ bigSep Finset.univ fun j : Fin 6 => iprop(cred (tallyAt (dcell c 1 j) () (amt j)) ∗ cred (tallyAt (dcell c 3 j) () (amt j))))

theorem step_intro (j : Fin 6) (c : Dev nD) :
    iprop((rsB (F := F) j c ∗ atPos ER (dcell c 1 j) 0 ∅ 0 ∗ agB (F := F) j c ∗ atPos ER (dcell c 3 j) 0 ∅ 0)
      ∗ cred (tallyAt (dcell c 1 j) () (amt j)) ∗ cred (tallyAt (dcell c 3 j) () (amt j))) ⊢ stepB (F := F) j c := by
  unfold stepB waiting
  iintro ⟨⟨H1, H2, H3, H4⟩, H5, H6⟩
  isplitl [H1]; · iexact H1
  isplitl [H2 H5]; · isplitl [H2] <;> iassumption
  isplitl [H3]; · iexact H3
  isplitl [H4] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Positions, tokens and credits are a device's ghost state. -/
theorem ghost_intro (c : Dev nD) : iprop(linear (F := F) c ∗ creds (F := F) c) ⊢ ghostB (F := F) c := by
  unfold creds
  iintro ⟨Hl, Hc, Hcs⟩
  ihave Hb := (bundles (F := F) c) $$ Hl
  icases Hb with ⟨Hat, Ht, Hs⟩
  unfold ghostB
  isplitl [Hat]; · iexact Hat
  isplitl [Hc]; · iexact Hc
  isplitl [Ht]; · iexact Ht
  rw [← bigSep_six fun j => stepB (F := F) j c]
  iapply ((Entails.of_eq (bigSep_sep' Finset.univ (fun j : Fin 6 => iprop(rsB (F := F) j c ∗ atPos ER (dcell c 1 j) 0 ∅ 0 ∗ agB (F := F) j c ∗ atPos ER (dcell c 3 j) 0 ∅ 0))
    (fun j => iprop(cred (tallyAt (dcell c 1 j) () (amt j)) ∗ cred (tallyAt (dcell c 3 j) () (amt j))))).symm).trans (bigSep_mono fun j _ => step_intro j c))
  isplitl [Hs] <;> iassumption

/-- What stays with device `c` at launch: its barrier's position, the right to open each of its transfer cells, its tokens. -/
def linear₀ (c : Dev nD) : sProp 𝕄 :=
  iprop(atPos ER (barCell c) 0 ∅ 0 ∗ (bigSep Finset.univ fun kj : Fin 4 × Fin 6 => openTok ER (dcell c kj.1 kj.2)) ∗ payToks (F := F) c)

section Region

variable (P : Dev nD → Ix 2048 → F .f32)

/-- What the device brings to the kernel, and what it has once its transfer cells are open. -/
def Tk (c : Dev nD) : sProp 𝕄 := iprop((∃ K, records P K ∗ linear₀ (F := F) c) ∗ creds (F := F) c)
def Xk (c : Dev nD) : sProp 𝕄 := iprop(∃ K, records P K ∗ reach (F := F) c ∗ levAts L lv ∗ ghostB (F := F) c)
def Yk (c : Dev nD) : sProp 𝕄 := semVal (barCell c) 0

theorem open_one (K : Dev nD × CI → ℕ) (c : Dev nD) (kj : Fin 4 × Fin 6) :
    iprop(records P K ∗ openTok ER (dcell c kj.1 kj.2) ∗ semVal (dcell c kj.1 kj.2) 0)
      ⊢ (|={Set.univ}=> iprop(posn (F := F) c (.inr kj) ∗ reached ER (dcell c kj.1 kj.2) 0) : sProp 𝕄) := by
  iintro ⟨#HR, Ho, Hv⟩
  imod (Rounds.cell_open ER (bRd P) (g := dcell c kj.1 kj.2) (Set.mem_univ (K (c, .inr kj)))) $$ [Ho Hv] with ⟨Hat, #Hr⟩
  · isplitr; · iapply (inv_at P K (c, .inr kj)); iexact HR
    isplitl [Ho] <;> iassumption
  imodintro
  isplitl [Hat]
  · unfold posn; iexact Hat
  iexact Hr

theorem open_all (K : Dev nD × CI → ℕ) (c : Dev nD) :
    iprop(records P K ∗ (bigSep Finset.univ fun kj : Fin 4 × Fin 6 => openTok ER (dcell c kj.1 kj.2))
        ∗ bigSep Finset.univ fun kj : Fin 4 × Fin 6 => semVal (dcell c kj.1 kj.2) 0)
      ⊢ (|={Set.univ}=> iprop((bigSep Finset.univ fun kj : Fin 4 × Fin 6 => posn (F := F) c (.inr kj)) ∗ reach (F := F) c) : sProp 𝕄) := by
  have h := (bigSep_with_persistent (R := records P K) (S := (Finset.univ : Finset (Fin 4 × Fin 6)))
    (Φ := fun kj => iprop(openTok ER (dcell c kj.1 kj.2) ∗ semVal (dcell c kj.1 kj.2) 0)) fun kj _ => open_one P K c kj).trans (bigSep_fupd _ _)
  rw [bigSep_sep', bigSep_sep'] at h
  exact h

theorem hopen (c : Dev nD) : iprop(Tk P c ∗ Pipeline.ownSems0 osem c ∗ levAts L lv) ⊢ (|={Set.univ}=> Xk P c : sProp 𝕄) := by
  rw [ownSems0_eq]
  unfold Tk Xk linear₀
  iintro ⟨⟨⟨%K, #HR, Hb, Ho, Ht⟩, Hc⟩, Hz, #Hlev⟩
  imod (open_all P K c) $$ [Ho Hz] with ⟨Hat, #Hr⟩
  · isplitr; · iexact HR
    isplitl [Ho] <;> iassumption
  imodintro
  iexists K
  isplitr; · iexact HR
  isplitr; · iexact Hr
  isplitr; · iexact Hlev
  iapply (ghost_intro (F := F) c)
  isplitr [Hc]
  · unfold linear
    rw [sum_CI]
    isplitr [Ht]
    · isplitl [Hb]
      · unfold posn; iexact Hb
      iexact Hat
    iexact Ht
  iexact Hc

end Region

/-! ## The region's data -/

variable (V : Dev nD → Valuation τ sig (Elt F))

/-- The kernel's arrays, as it finds them; each device's contribution is its operand. -/
def arr1 (c : Dev nD) (w : Fin 2) : Buf (Elt F) ((cfg1.win w).arr.view.loc (c.tc : Thread nD τ)) :=
  V c (Proc.devRef .tc (Pipeline.arrRef spec1 w))
def contrib (c : Dev nD) : Ix 2048 → F .f32 := ((cfg1.win 0).blk t1_0).view.read (Elt F) (arr1 V c 0)

theorem contrib_eq (c : Dev nD) : contrib V c = V c main_v25 := by
  funext i
  show V c main_v25 (((cfg1.win 0).blk t1_0).view.emb i) = _
  congr 1
  funext a; apply Fin.ext
  fin_cases a
  · show 0 + 1 * (i 0).val = (i 0).val; omega
  · show 0 + 1 * (i 1).val = (i 1).val; omega

/-- The device's counters: its barrier's and its transfers', at zero. -/
def zeros (c : Dev nD) : sProp 𝕄 :=
  iprop(semVal (barCell c) 0 ∗ bigSep Finset.univ fun kj : Fin 4 × Fin 6 => semVal (dcell c kj.1 kj.2) 0)

/-- The other scoped buffers, which the kernel does not touch, and the landing buffer. -/
def others (c : Dev nD) : sProp 𝕄 :=
  bigSep (((Finset.univ.filter fun b : Ref sig .tc => b.isScoped) \ Finset.univ.image (Pipeline.stageRef spec1)).erase cc1_scratch0)
    fun b => iprop(∃ f : Buf (Elt F) ((c.tc : Thread nD τ).loc b), ((c.tc : Thread nD τ).loc b) ↦{fullShare} f)

theorem x_eq (c : Dev nD) (f : Ix 2048 → F .f32) : (xPts c f : sProp 𝕄) = (((c : Thread nD τ).loc cc1_stg0_0) ↦{fullShare} f) := rfl
theorem o_eq (c : Dev nD) (f : Ix 2048 → F .f32) : (oPts c Finset.univ f : sProp 𝕄) = (((c : Thread nD τ).loc cc1_stg1_0) ↦{fullShare} f) := rfl
theorem c_eq (c : Dev nD) : (anyC (F := F) c Finset.univ : sProp 𝕄)
    = iprop(∃ f : Buf (Elt F) ((c : Thread nD τ).loc cc1_scratch0), (((c : Thread nD τ).loc cc1_scratch0) ↦{fullShare} f)) := rfl

theorem scoped_split (c : Dev nD) : (Pipeline.scopedRest spec1 c : sProp 𝕄) = iprop(anyC (F := F) c Finset.univ ∗ others (F := F) c) := by
  unfold Pipeline.scopedRest others
  rw [c_eq]
  exact BI.bigSep_erase (by decide)

def Φ₀ (c : Dev nD) : sProp 𝕄 := iprop(Xk (contrib V) c ∗ anyC (F := F) c Finset.univ ∗ others (F := F) c ∗ ∃ r, prngReg c r)
def Φ₁ (c : Dev nD) : sProp 𝕄 := iprop(anyC (F := F) c Finset.univ ∗ zeros (F := F) c ∗ others (F := F) c ∗ ∃ r, prngReg c r)

def dat1 (c : Dev nD) : Dat τ (Elt F) Unit ℕ UU ℕ cfg1 c where
  A w := arr1 V c w
  after w _ := match w with
    | ⟨0, _⟩ => contrib V c
    | ⟨1, _⟩ => totA (contrib V)
  Φ t := match t with
    | ⟨0, _⟩ => Φ₀ V c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body obligation -/

def obPre (c : Dev nD) : sProp 𝕄 :=
  iprop(Φ₀ V c ∗ (dat1 V c).owesAt () t1_0.castSucc
    ∗ (∃ d, stg c cc1_stg0_0 ((dat1 V c).before (0 : Fin 2) t1_0 d))
    ∗ (∃ d, stg c cc1_stg1_0 ((dat1 V c).before (1 : Fin 2) t1_0 d)))
def obPost (c : Dev nD) : sProp 𝕄 :=
  iprop(Φ₁ (F := F) c ∗ (dat1 V c).owesAt () t1_0.succ ∗ stg c cc1_stg0_0 (contrib V c) ∗ stg c cc1_stg1_0 (totA (contrib V)))

/-- What rides through the body untouched. -/
def ride (c : Dev nD) : sProp 𝕄 := iprop(others (F := F) c ∗ ∃ r, prngReg c r)

/-- The wait cells, one kind after the other, closed. -/
theorem step_close (P : Dev nD → Ix 2048 → F .f32) (K : Dev nD × CI → ℕ) (c : Dev nD) (j : Fin 6) :
    iprop(records P K ∗ stepE (F := F) j c) ⊢ (|={Set.univ}=> bigSep Finset.univ fun k : Fin 4 => semVal (dcell c k j) 0 : sProp 𝕄) := by
  unfold stepE
  iintro ⟨#HR, H0, H1, H2, H3⟩
  imod (close P K c 0 j) $$ [H0] with Z0
  · isplitr; · iexact HR
    iexact H0
  imod (close P K c 1 j) $$ [H1] with Z1
  · isplitr; · iexact HR
    iexact H1
  imod (close P K c 2 j) $$ [H2] with Z2
  · isplitr; · iexact HR
    iexact H2
  imod (close P K c 3 j) $$ [H3] with Z3
  · isplitr; · iexact HR
    iexact H3
  imodintro
  rw [bigSep_four]
  isplitl [Z0]; · iexact Z0
  isplitl [Z1]; · iexact Z1
  isplitl [Z2] <;> iassumption

theorem all_close (P : Dev nD → Ix 2048 → F .f32) (K : Dev nD × CI → ℕ) (c : Dev nD) :
    iprop(records P K ∗ atPos ER (barCell c) (0 + 1) ∅ 0 ∗ bigSep Finset.univ fun j : Fin 6 => stepE (F := F) j c) ⊢ (|={Set.univ}=> zeros (F := F) c : sProp 𝕄) := by
  iintro ⟨#HR, Hb, Hs⟩
  imod (Rounds.cell_close ER (bRd P) (Set.mem_univ (K (c, .inl ()))) (fun h => h) (R := 0 + 1) (duties_later P (barCell c))) $$ [Hb] with Zb
  · isplitr; · iapply (inv_at P K (c, .inl ())); iexact HR
    iexact Hb
  imod ((bigSep_with_persistent (R := records P K) fun j _ => step_close P K c j).trans (bigSep_fupd _ _)) $$ [Hs] with Zs
  · isplitr; · iexact HR
    iexact Hs
  imodintro
  unfold zeros
  isplitl [Zb]; · iexact Zb
  iapply (Entails.of_eq ((bigSep_univ_comm fun (j : Fin 6) (k : Fin 4) => (semVal (dcell c k j) 0 : sProp 𝕄)).trans
    (bigSep_univ_prod fun kj : Fin 4 × Fin 6 => (semVal (dcell c kj.1 kj.2) 0 : sProp 𝕄)).symm))
  iexact Zs

theorem end_post (K : Dev nD × CI → ℕ) (c : Dev nD) :
    iprop(records (contrib V) K ∗ ride (F := F) c ∗ bodyEnd (contrib V) c) ⊢ (|={Set.univ}=> obPost V c : sProp 𝕄) := by
  unfold bodyEnd ride
  rw [← bigSep_six fun j => stepE (F := F) j c]
  iintro ⟨#HR, ⟨Hoth, Hp⟩, Hb, Hs, Hc, HO, Hx, Ho⟩
  imod (all_close (contrib V) K c) $$ [Hb Hs] with Hz
  · isplitr; · iexact HR
    isplitl [Hb] <;> iassumption
  imodintro
  unfold obPost Φ₁ Dat.owesAt Pipeline.owesWithin owesAny
  rw [show (dat1 V c).owed t1_0.succ = 0 from rfl]
  isplitl [Hc Hz Hoth Hp]
  · isplitl [Hc]; · iexact Hc
    isplitl [Hz]; · iexact Hz
    isplitl [Hoth]; · iexact Hoth
    iexact Hp
  isplitl [HO]
  · icases HO with ⟨%W, HO⟩
    iexists W; isplitr; · ipureintro; exact fun _ _ => Or.inl trivial
    iexact HO
  isplitl [Hx]
  · iexists _; isplitr; · (ipureintro; rfl)
    iapply (Entails.of_eq (x_eq c (contrib V c))); iexact Hx
  iexists _; isplitr; · (ipureintro; rfl)
  iapply (Entails.of_eq (o_eq c (totA (contrib V)))); iexact Ho

theorem ob_pre (c : Dev nD) : obPre V c ⊢ iprop(∃ K, bodyPre (contrib V) K c ∗ ride (F := F) c) := by
  unfold obPre Φ₀ Xk
  iintro ⟨⟨⟨%K, HR, Hr, Hl, Hg⟩, Hscr, Hoth, Hp⟩, HO, ⟨%d0, %g0, %hg0, Hx⟩, ⟨%d1, %g1, %hg1, Hout⟩⟩
  have hx : g0 = contrib V c := by rw [hg0]; unfold Dat.before; rw [if_pos (fetch1_0 t1_0)]; rfl
  subst hx
  unfold Dat.owesAt Pipeline.owesWithin
  icases HO with ⟨%W, %hW, HO⟩
  rw [show (dat1 V c).owed t1_0.castSucc = O₀ c from rfl]
  iexists K
  isplitr [Hoth Hp]
  · unfold bodyPre owesAny
    isplitl [HR]; · iexact HR
    isplitl [Hr]; · iexact Hr
    isplitl [Hl]; · iexact Hl
    isplitl [Hg]; · iexact Hg
    isplitl [Hscr]; · iexact Hscr
    isplitl [HO]; · iexists W; iexact HO
    isplitl [Hx]; · iapply (Entails.of_eq (x_eq c (contrib V c)).symm); iexact Hx
    iexists g1; iapply (Entails.of_eq (o_eq c g1).symm); iexact Hout
  unfold ride
  isplitl [Hoth] <;> iassumption

theorem sound_body (c : Dev nD) :
    obPre V c ⊢ wp frame (wpE (defs₀ (F := F)) 𝒱₀ c none) Set.univ
      (cc1__allreduce_body (Memref.whole cc1_stg0_0) (Memref.isWhole_whole _) (Memref.whole cc1_stg1_0) (Memref.isWhole_whole _)
        (Memref.whole cc1_scratch0) (Memref.isWhole_whole _) cc1_scratch1 cc1_scratch2 cc1_scratch3 cc1_scratch4) (fun _ => obPost V c) := by
  refine (ob_pre V c).trans ?_
  iintro ⟨%K, H, Hride⟩
  ihave #HR := (show bodyPre (contrib V) K c ⊢ records (contrib V) K from by unfold bodyPre; iintro ⟨H, -⟩; iexact H) $$ H
  iapply wp_fupd
  iapply (sound_core (contrib V) K c _)
  isplitl [H]; · iexact H
  iintro He
  iapply (end_post V K c)
  isplitr; · iexact HR
  isplitl [Hride] <;> iassumption

set_option maxRecDepth 4000 in
/-- The library's body obligation on core `c`. -/
theorem body1 (c : Dev nD) : BodyObligation (dat1 V c) (defs₀ (F := F)) 𝒱₀ () Set.univ := fun t => by
  rw [fin_N1 t]
  rw [bigSep_W1, bigSep_W1]
  simp only [owns_stg]
  exact sound_body V c

theorem hin1 (c : Dev nD) : iprop((Pipeline.scopedRest spec1 c : sProp 𝕄) ∗ (∃ r, prngReg c r) ∗ StableHlo.held (c.tc : Thread nD τ) ∅ (V c) ∗ Xk (contrib V) c)
    ⊢ (dat1 V c).Φ 0 := by
  rw [show (dat1 V c).Φ 0 = Φ₀ V c from rfl, scoped_split]
  unfold Φ₀
  iintro ⟨⟨Hc, Ho⟩, Hp, -, HX⟩
  isplitl [HX]; · iexact HX
  isplitl [Hc]; · iexact Hc
  isplitl [Ho] <;> iassumption

theorem hout1 (V' : Dev nD → Valuation τ sig (Elt F)) (c : Dev nD) : (dat1 V c).Φ (Fin.last cfg1.N)
    ⊢ iprop((Pipeline.scopedRest spec1 c : sProp 𝕄) ∗ (∃ r, prngReg c r) ∗ StableHlo.held (c.tc : Thread nD τ) ∅ (V' c) ∗ Pipeline.ownSems0 osem c ∗ Yk (F := F) c) := by
  rw [show (dat1 V c).Φ (Fin.last cfg1.N) = Φ₁ c from rfl, scoped_split, ownSems0_eq,
    show (StableHlo.held (c.tc : Thread nD τ) ∅ (V' c) : sProp 𝕄) = BI.emp from by unfold StableHlo.held; exact BI.bigSep_empty]
  unfold Φ₁ zeros Yk
  iintro ⟨Hc, ⟨Hb, Hz⟩, Ho, Hp⟩
  isplitl [Hc Ho]
  · isplitl [Hc] <;> iassumption
  isplitl [Hp]; · iexact Hp
  isplitr; · iempintro
  isplitl [Hz] <;> iassumption

/-- The result's array ends at the sum of the contributions. -/
theorem arr_out (c : Dev nD) : (dat1 V c).arrAt 1 cfg1.N = totA (contrib V) :=
  (dat1 V c).arrAt_eq_of_after_last 1 t1_0 (by decide +kernel) (totA (contrib V)) fun j => rfl

end Cert.KernelIdealProof

end
-- ==== Proof.KernelIdealSegs.lean ====
/-
# The program's two kernels

Between the host's operations the program runs the compute kernel and the all-reduce kernel. This module states what the
arrays hold between them and gives each kernel its place in the program: the first runs while the dues of the second are
already owed, the second opens its transfer cells and pays them.
-/
module

public import proofs.«01_k».proof.Proof.KernelIdealHead
public import proofs.«01_k».proof.Proof.KernelIdealTalk
public import proofs.«01_k».proof.Proof.Gen.KernelIdeal.Regions
public import Idealize.ShloMosaic.Lib.Pipeline.RegionArrays
public import Idealize.ShloMosaic.Lib.Pipeline.RegionTalk

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F] [Named F]

local notation "𝕄" => MT nD τ sig Unit (Elt F) ℕ UU ℕ

variable (m : (ℓ : Loc nD τ sig) → Buf (Elt F) ℓ)

/-! ## What the kernels leave -/

/-- Each device's partial result: what the compute kernel leaves after its last head. -/
def part (c : Dev nD) : Ix 2048 → F .f32 := accAt (V1 m) c 7 (by decide)

def outs : Outs (F := F) := fun _ r c =>
  Function.update (Function.update (fun r : Ref sig .tc => m ((c : Thread nD τ).loc r)) main_v25 (part m c)) main_v26 (totA (part m)) r

theorem outs_v25 (n : ℕ) (c : Dev nD) : outs m n main_v25 c = part m c := by
  unfold outs
  rw [Function.update_of_ne (by decide), Function.update_self]
theorem outs_v26 (n : ℕ) (c : Dev nD) : outs m n main_v26 c = totA (part m) := by
  unfold outs
  rw [Function.update_self]

theorem V2_v25 (c : Dev nD) : V2 m (outs m) c main_v25 = part m c :=
  (Function.update_self ..).trans (outs_v25 m 2 c)
theorem V3_v26 (c : Dev nD) : V3 m (outs m) c main_v26 = totA (part m) :=
  (Function.update_self ..).trans (outs_v26 m 3 c)

theorem contrib_part : contrib (V2 m (outs m)) = part m := funext fun c => (contrib_eq (V2 m (outs m)) c).trans (V2_v25 m c)

/-! ## The data of the two pipelines -/

def pdats : (p : Fin 2) → (c : Dev nD) → Dat τ (Elt F) Unit ℕ UU ℕ (cfgs p) c
  | ⟨0, _⟩ => dat0 (V1 m)
  | ⟨1, _⟩ => dat1 (V2 m (outs m))

theorem share0 (c : Dev nD) (w : Fin 6) : (dat0 (V1 m) c).share w = fullShare := by unfold Dat.share; split <;> rfl
theorem share1 (c : Dev nD) (w : Fin 2) : (dat1 (V2 m (outs m)) c).share w = fullShare := by unfold Dat.share; split <;> rfl

theorem last0 (c : Dev nD) : (dat0 (V1 m) c).arrAt (5 : Fin 6) cfg0.N = part m c :=
  (dat0 (V1 m) c).arrAt_eq_of_after_last (5 : Fin 6) t0_7 (by decide +kernel) (part m c) fun j => by
    show part m c _ = part m c _
    congr 1

theorem arrRef0_ne (w : Fin 6) (h : w ≠ 5) : Pipeline.arrRef spec0 w ∉ ([main_v25] : List (Ref sig .tc)) := by
  revert w; decide
theorem arrRef1_ne (w : Fin 2) (h : w ≠ 1) : Pipeline.arrRef spec1 w ∉ ([main_v26] : List (Ref sig .tc)) := by
  revert w; decide
theorem isOut0 (w : Fin 6) (h : w ≠ 5) : (cfg0.win w).isOut = false := by
  revert w; decide

theorem exit0 (c : Dev nD) (w : Fin 6) : (dat0 (V1 m) c).arrAt w cfg0.N = V2 m (outs m) c (Proc.devRef .tc (Pipeline.arrRef spec0 w)) := by
  by_cases h : w = 5
  · subst h
    exact (last0 m c).trans (V2_v25 m c).symm
  · exact ((dat0 (V1 m) c).arrAt_in w (isOut0 w h) _).trans (V2_of m (outs m) c _ (arrRef0_ne w h)).symm

theorem exit1 (c : Dev nD) (w : Fin 2) : (dat1 (V2 m (outs m)) c).arrAt w cfg1.N = V3 m (outs m) c (Proc.devRef .tc (Pipeline.arrRef spec1 w)) := by
  match w with
  | ⟨0, _⟩ => exact ((dat1 (V2 m (outs m)) c).arrAt_in (0 : Fin 2) rfl _).trans (V3_of m (outs m) c _ (arrRef1_ne 0 (by decide))).symm
  | ⟨1, _⟩ => exact ((arr_out (V2 m (outs m)) c).trans (congrArg totA (contrib_part m))).trans (V3_v26 m c).symm

/-! ## The levels -/

theorem stage_lv0 (c : Dev nD) (w : Fin 6) (s : Fin (cfg0.win w).nbuf) : lv ((c : Thread nD τ), .dma ((cfg0.win w).sem s)) () ≤ 0 := by
  have h : ∀ (w : Fin 6) (s : Fin (cfg0.win w).nbuf), ((cfg0.win w).sem s).val < base := by decide
  show (if base ≤ ((cfg0.win w).sem s).val then _ else 0) ≤ 0
  rw [if_neg (Nat.not_le.mpr (h w s))]
theorem stage_lv1 (c : Dev nD) (w : Fin 2) (s : Fin (cfg1.win w).nbuf) : lv ((c : Thread nD τ), .dma ((cfg1.win w).sem s)) () ≤ 0 := by
  have h : ∀ (w : Fin 2) (s : Fin (cfg1.win w).nbuf), ((cfg1.win w).sem s).val < base := by decide
  show (if base ≤ ((cfg1.win w).sem s).val then _ else 0) ≤ 0
  rw [if_neg (Nat.not_le.mpr (h w s))]

theorem dues_above (c : Dev nD) (g : GSem nD τ sig) (i : Unit) (h : 0 < O₀ c g i) : i ∈ L g ∧ 0 < lv g i := by
  rcases O₀_pos h with ⟨x, hx, rfl⟩ | ⟨d, rfl⟩
  · exact ⟨Finset.mem_singleton_self _, by rw [lv_dcell]; exact lt_trans Nat.zero_lt_one (rlev_sends x hx)⟩
  · exact ⟨Finset.mem_singleton_self _, Nat.one_pos⟩

/-! ## The segments -/

theorem kit0 : Pipeline.PLaunchFacts (nD := nD) (τ := τ) (pcfgs (F := F)) 0 := (launch0).toP
theorem kit1 : Pipeline.PLaunchFacts (nD := nD) (τ := τ) (pcfgs (F := F)) 1 := (launch1).toP

/-- What a device holds besides its arrays until the second kernel runs. -/
def E01 (c : Dev nD) : sProp 𝕄 := iprop(Tk (part m) c ∗ (∃ r, prngReg c r) ∗ ∃ W, owes (c : Thread nD τ) (O₀ c) W)
def E2 (c : Dev nD) : sProp 𝕄 := iprop(semVal (barCell c) 0 ∗ ∃ W, owes (c : Thread nD τ) (0 : CellTallies nD τ sig Unit) W)
def E : Fin 3 → Dev nD → sProp 𝕄 := fun j => match j with
  | ⟨0, _⟩ => E01 m
  | ⟨1, _⟩ => E01 m
  | ⟨2, _⟩ => E2

/-- The arrays the kernels do not name. -/
abbrev off0 : Finset (DevRef τ sig) := Pipeline.ucRefs τ sig \ Pipeline.arrRefs (τ := τ) spec0
abbrev off1 : Finset (DevRef τ sig) := Pipeline.ucRefs τ sig \ Pipeline.arrRefs (τ := τ) spec1

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)

theorem rest_in (c : Dev nD) : iprop((Pipeline.scopedRest spec0 c : sProp 𝕄) ∗ emp) ⊢ (Pipeline.scopedRest spec0 c : sProp 𝕄) := by
  iintro ⟨H, -⟩; iexact H
theorem rest_out (c : Dev nD) : (Pipeline.scopedRest spec0 c : sProp 𝕄) ⊢ iprop((Pipeline.scopedRest spec0 c : sProp 𝕄) ∗ emp) := by
  iintro H
  isplitl [H]
  · iexact H
  iempintro

set_option backward.isDefEq.respectTransparency.types false in
/-- The compute kernel, run while the all-reduce's dues are owed. -/
def reg0 : RegionSeg (pcfgs (F := F)) adm (pdats m) () defs₀ 𝒱₀ L lv 0 :=
  RegionSeg.ofHeld (pcfgs (F := F)) adm (pdats m) () defs₀ 𝒱₀ L lv 0 O₀ (fun _ => iprop(emp)) (fun _ => iprop(emp)) kit0 rfl
    (fun c => (body0 (V1 m) c).loose) (fun _ _ => rfl) (fun _ => rfl) (share0 m)
    (fun c => rest_in c) (fun c => rest_out c)
    (fun _ => 0) ⟨fun c _ _ => Finset.mem_singleton_self _, stage_lv0, dues_above⟩
    (fun c => iprop(StableHlo.held (c : Thread nD τ) off0 (V1 m c) ∗ Tk (part m) c ∗ ∃ r, prngReg c r))
    (V1 m) (V2 m (outs m)) (fun _ _ => rfl) (exit0 m)

set_option backward.isDefEq.respectTransparency.types false in
/-- The all-reduce kernel. -/
def reg1 : RegionSeg (pcfgs (F := F)) adm (pdats m) () defs₀ 𝒱₀ L lv 1 :=
  RegionSeg.ofTalk (pcfgs (F := F)) adm (pdats m) () defs₀ 𝒱₀ L lv 1 osem ownSemFacts
    ∅ off1 (Finset.empty_subset _) kit1 rfl (fun c => (body1 (V2 m (outs m)) c).loose)
    (fun _ => 0) O₀ (fun c => (zero_add (O₀ c)).symm) (fun _ => rfl) (fun _ => rfl) (share1 m)
    (V2 m (outs m)) (V3 m (outs m))
    (fun c b hb => by
      have hb' := (Finset.mem_sdiff.mp (Finset.mem_sdiff.mp hb).1).2
      refine Function.update_of_ne (fun h => hb' ?_) _ _
      rw [h]
      decide)
    (Tk (contrib (V2 m (outs m)))) Yk (Xk (contrib (V2 m (outs m)))) Yk (hopen (contrib (V2 m (outs m)))) (hin1 (V2 m (outs m))) (hout1 (V2 m (outs m)) (V3 m (outs m)))
    (fun c => by iintro H; imodintro; iexact H)
    (fun _ => 0)
    ⟨fun c _ _ => Finset.mem_singleton_self _, stage_lv1, fun c t g i h => by
      match t, h with
      | ⟨0, _⟩, h => exact dues_above c g i h
      | ⟨_ + 1, _⟩, h => exact absurd h (Nat.lt_irrefl 0)⟩
    (fun _ => iprop(emp))
    (fun _ _ => rfl) (exit1 m)

/-! ## The states between -/

theorem off0_kept (c : Dev nD) : (StableHlo.held (c : Thread nD τ) off0 (V1 m c) : sProp 𝕄) = StableHlo.held (c : Thread nD τ) off0 (V2 m (outs m) c) :=
  StableHlo.held_congr (c : Thread nD τ) fun b hb => by
    have hb' := (Finset.mem_sdiff.mp hb).2
    refine (Function.update_of_ne (fun h => hb' ?_) _ _).symm
    rw [h]
    decide

theorem hpre0 (c : Dev nD) : iprop(StableHlo.held (c : Thread nD τ) (Pipeline.ucRefs τ sig) (V1 m c) ∗ E m 0 c) ⊢ (reg0 m).pre c := by
  show _ ⊢ iprop(StableHlo.held (c.tc : Thread nD τ) (Pipeline.arrRefs (τ := τ) spec0) (V1 m c) ∗ emp
    ∗ (StableHlo.held (c : Thread nD τ) off0 (V1 m c) ∗ Tk (part m) c ∗ ∃ r, prngReg c r) ∗ ∃ Wd, owes (c : Thread nD τ) (O₀ c) Wd)
  rw [StableHlo.held_sub_split (c : Thread nD τ) sub0 (V1 m c), show E m 0 c = E01 m c from rfl]
  unfold E01
  iintro ⟨⟨Ha, Hr⟩, HT, Hp, HO⟩
  isplitl [Ha]; · iexact Ha
  isplitr; · iempintro
  isplitr [HO]
  · isplitl [Hr]; · iexact Hr
    isplitl [HT] <;> iassumption
  iexact HO

theorem hpost0 (c : Dev nD) : (reg0 m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ emp
    ∗ (StableHlo.held (c : Thread nD τ) off0 (V1 m c) ∗ Tk (part m) c ∗ ∃ r, prngReg c r) ∗ ∃ Wd, owes (c : Thread nD τ) (O₀ c) Wd) ⊢ _
  rw [StableHlo.held_sub_split (c : Thread nD τ) sub0 (V2 m (outs m) c), show E m 1 c = E01 m c from rfl, off0_kept]
  unfold E01
  iintro ⟨Ha, -, ⟨Hr, HT, Hp⟩, HO⟩
  isplitl [Ha Hr]
  · isplitl [Ha] <;> iassumption
  isplitl [HT]; · iexact HT
  isplitl [Hp] <;> iassumption

theorem hpre1 (c : Dev nD) : iprop(StableHlo.held (c : Thread nD τ) (Pipeline.ucRefs τ sig) (V2 m (outs m) c) ∗ E m 1 c) ⊢ (reg1 m).pre c := by
  show _ ⊢ iprop(StableHlo.held (c.tc : Thread nD τ) (Pipeline.arrRefs (τ := τ) spec1) (V2 m (outs m) c) ∗ (∃ r, prngReg c r)
    ∗ (StableHlo.held (c.tc : Thread nD τ) off1 (V2 m (outs m) c) ∗ emp) ∗ Tk (contrib (V2 m (outs m))) c ∗ ∃ Wd, owes (c : Thread nD τ) (0 + O₀ c) Wd)
  rw [StableHlo.held_sub_split (c : Thread nD τ) sub1 (V2 m (outs m) c), show E m 1 c = E01 m c from rfl, zero_add, contrib_part]
  unfold E01
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem hpost1 (c : Dev nD) : (reg1 m).post c ⊢ iprop(StableHlo.held (c : Thread nD τ) (Pipeline.ucRefs τ sig) (V3 m (outs m) c) ∗ E m 2 c) := by
  show iprop(StableHlo.held (c.tc : Thread nD τ) (Pipeline.arrRefs (τ := τ) spec1) (V3 m (outs m) c) ∗ (∃ r, prngReg c r)
    ∗ (StableHlo.held (c.tc : Thread nD τ) off1 (V3 m (outs m) c) ∗ emp) ∗ Yk (F := F) c ∗ ∃ Wd, owes (c : Thread nD τ) (0 : CellTallies nD τ sig Unit) Wd) ⊢ _
  rw [StableHlo.held_sub_split (c : Thread nD τ) sub1 (V3 m (outs m) c), show E m 2 c = E2 c from rfl]
  unfold E2 Yk
  iintro ⟨Ha, -, ⟨Hr, -⟩, Hb, HO⟩
  isplitl [Ha Hr]
  · isplitl [Ha] <;> iassumption
  isplitl [Hb] <;> iassumption

end Cert.KernelIdealProof

end
-- ==== Proof.KernelIdealRun.lean ====
/-
# The program's run

The ghost state minted at launch — for every device its barrier's position, the rights to open its transfer cells, and the
tokens — is dealt: each token goes to the partner that pays its duty. With the credits owed, that is where the programs start;
they all end with the arrays the two kernels and the host's operations leave.
-/
module

public import proofs.«01_k».proof.Proof.KernelIdealSegs
public import Idealize.ShloMosaic.Lib.Pipeline.CollectiveSegs

@[expose] public section

noncomputable section

namespace Cert.KernelIdealProof

open Cert.KernelIdeal Cert.KernelIdeal.Gen Cert.Butterfly

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Cells and tokens -/

def barEmb : Dev nD ↪ GSem nD τ sig := ⟨fun c => barCell c, fun _ _ h => (cell_dev h).1⟩
def scEmb : Dev nD × (Fin 4 × Fin 6) ↪ GSem nD τ sig := ⟨fun x => dcell x.1 x.2.1 x.2.2, fun _ _ h => by
  obtain ⟨h1, h2, h3⟩ := dcell_inj h; exact Prod.ext h1 (Prod.ext h2 h3)⟩

/-- The barrier cells, the transfer cells, and the token of every duty. -/
abbrev barCells : Finset (GSem nD τ sig) := Finset.univ.map barEmb
abbrev scCells : Finset (GSem nD τ sig) := Finset.univ.map scEmb
def allToks : Finset (GSem nD τ sig × ℕ × Fin 3) := Finset.univ.map ⟨tokOf, tokOf_injective⟩

theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact bar_ne_dcell h.symm

theorem cells_eq : (barCells ∪ scCells : Finset (GSem nD τ sig)) = Finset.univ.map ⟨kcell, kcell_injective⟩ := by
  ext g
  constructor
  · intro h
    rcases Finset.mem_union.mp h with h | h
    · obtain ⟨c, -, rfl⟩ := Finset.mem_map.mp h
      exact Finset.mem_map.mpr ⟨(c, .inl ()), Finset.mem_univ _, rfl⟩
    · obtain ⟨⟨c, kj⟩, -, rfl⟩ := Finset.mem_map.mp h
      exact Finset.mem_map.mpr ⟨(c, .inr kj), Finset.mem_univ _, rfl⟩
  · intro h
    obtain ⟨⟨c, _ | kj⟩, -, rfl⟩ := Finset.mem_map.mp h
    · exact Finset.mem_union_left _ (Finset.mem_map_of_mem barEmb (Finset.mem_univ c))
    · exact Finset.mem_union_right _ (Finset.mem_map_of_mem scEmb (Finset.mem_univ (c, kj)))

def u₀ : UU := (initOf (Pipeline.cells cfgs cellOf_inj) (Pipeline.launchToks cfgs cellOf_inj), launchOf barCells scCells allToks)

theorem unpair (Φ Ψ : Dev nD → sProp 𝕄) :
    (bigSep Finset.univ fun c : Dev nD => iprop(Φ c ∗ Ψ c)) ⊢ iprop(bigSep Finset.univ Φ ∗ bigSep Finset.univ Ψ) :=
  Entails.of_eq (bigSep_sep' Finset.univ Φ Ψ)
theorem paired (Φ Ψ : Dev nD → sProp 𝕄) :
    iprop(bigSep Finset.univ Φ ∗ bigSep Finset.univ Ψ) ⊢ (bigSep Finset.univ fun c : Dev nD => iprop(Φ c ∗ Ψ c)) :=
  Entails.of_eq (bigSep_sep' Finset.univ Φ Ψ).symm

/-- A resource held by one device alone. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have h : (bigSep (Finset.univ.erase c₀) (onDev c₀ X) : sProp 𝕄) = iprop(emp) :=
    (bigSep_congr fun c hc => if_neg (Finset.ne_of_mem_erase hc)).trans (BI.bigSep_emp_const _)
  rw [bigSep_univ_at _ c₀, h, show onDev c₀ X c₀ = X from if_pos rfl]
  exact BI.equiv_iff.mp sep_emp

/-- The launch's share of the ghost state, held by device 0 until it is dealt. -/
def G : Dev nD → sProp 𝕄 := onDev 0 (BI.own (ER (launchOf barCells scCells allToks)))

/-! ## The credits -/

theorem Orem_dcell (d c : Dev nD) (k : Fin 4) (j : Fin 6) : ∀ xs : List (Fin 4 × Fin 6),
    Orem d xs (dcell c k j) () = if d = pr j c then xs.count (k, j) * amt j else 0
  | [] => by rw [List.count_nil, Nat.zero_mul, ite_self]; rfl
  | x :: xs => by
    show (Orem d xs + tallyAt (dcell (pr x.2 d) x.1 x.2) () (amt x.2)) (dcell c k j) () = _
    rw [Pi.add_apply, Finsupp.add_apply, Orem_dcell d c k j xs, tallyAt_apply, List.count_cons]
    by_cases hd : d = pr j c
    · subst hd
      rw [if_pos rfl, if_pos rfl]
      by_cases hx : x = (k, j)
      · subst hx
        rw [if_pos ⟨by rw [pr_pr], rfl⟩, if_pos (by simp), Nat.add_mul, Nat.one_mul]
      · have hx' : ¬((dcell c k j = dcell (pr x.2 (pr j c)) x.1 x.2) ∧ () = ()) := fun h => hx (by
          obtain ⟨-, h2, h3⟩ := dcell_inj h.1; exact Prod.ext h2.symm h3.symm)
        rw [if_neg hx', if_neg (by simpa using hx), Nat.add_zero, Nat.add_zero]
    · have hd' : ¬((dcell c k j = dcell (pr x.2 d) x.1 x.2) ∧ () = ()) := fun h => hd (by
        obtain ⟨h1, -, h3⟩ := dcell_inj h.1
        rw [h3, h1, pr_pr])
      rw [if_neg hd, if_neg hd, if_neg hd']

theorem Orem_bar (d c : Dev nD) : ∀ xs : List (Fin 4 × Fin 6), Orem d xs (barCell c) () = 0
  | [] => rfl
  | x :: xs => by
    show (Orem d xs + tallyAt (dcell (pr x.2 d) x.1 x.2) () (amt x.2)) (barCell c) () = _
    rw [Pi.add_apply, Finsupp.add_apply, Orem_bar d c xs, tallyAt_ne_cell bar_ne_dcell]; rfl

theorem tally_bar_dcell (d c : Dev nD) (k : Fin 4) (j : Fin 6) : (tallyAt (barCell d) () 1 : CellTallies nD τ sig Unit) (dcell c k j) () = 0 := by
  rw [tallyAt_ne_cell bar_ne_dcell.symm]; rfl
theorem tally_bar (d c : Dev nD) (a : Fin 3) : (tallyAt (barCell (par a d)) () 1 : CellTallies nD τ sig Unit) (barCell c) () = if d = par a c then 1 else 0 := by
  rw [tallyAt_apply]
  by_cases h : d = par a c
  · subst h; rw [par_par, if_pos ⟨rfl, rfl⟩, if_pos rfl]
  · rw [if_neg (fun h' => h (by rw [(cell_dev h'.1).1, par_par])), if_neg h]

theorem owed_dcell (d c : Dev nD) (k : Fin 4) (j : Fin 6) : O₀ d (dcell c k j) () = if d = pr j c then sends.count (k, j) * amt j else 0 := by
  unfold O₀
  rw [Pi.add_apply, Finsupp.add_apply, Pi.add_apply, Finsupp.add_apply, Pi.add_apply, Finsupp.add_apply, tally_bar_dcell, tally_bar_dcell, tally_bar_dcell,
    Nat.add_zero, Orem_dcell]
theorem owed_bar (d c : Dev nD) : O₀ d (barCell c) () = (if d = par 2 c then 1 else 0) + (if d = par 1 c then 1 else 0) + (if d = par 0 c then 1 else 0) := by
  unfold O₀
  rw [Pi.add_apply, Finsupp.add_apply, Pi.add_apply, Finsupp.add_apply, Pi.add_apply, Finsupp.add_apply, tally_bar, tally_bar, tally_bar, Orem_bar, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (par 2 c) fun _ => 1, Finset.sum_ite_eq' Finset.univ (par 1 c) fun _ => 1, Finset.sum_ite_eq' Finset.univ (par 0 c) fun _ => 1,
    if_pos (Finset.mem_univ _), if_pos (Finset.mem_univ _), if_pos (Finset.mem_univ _)]
theorem launch_dcell (c : Dev nD) (k : Fin 4) (j : Fin 6) :
    tallyOn (dcell c k j) (launchCredit (Pipeline.owing O₀) 0 (dcell c k j)) = (tallyAt (dcell c k j) () (sends.count (k, j) * amt j) : CellTallies nD τ sig Unit) := by
  unfold tallyAt; refine congrArg _ (Finsupp.ext fun u => ?_); cases u
  rw [Pipeline.launchCredit_owing, Finsupp.single_eq_same, Finset.sum_congr rfl fun d _ => owed_dcell d c k j,
    Finset.sum_ite_eq' Finset.univ (pr j c) fun _ => sends.count (k, j) * amt j, if_pos (Finset.mem_univ _)]

def dsemE : Fin 4 × Fin 6 ↪ SemLoc sig := ⟨fun kj => .dma (dsem kj.1 kj.2), fun a b h => by
  obtain ⟨h1, h2⟩ := dsem_inj (SemLoc.dma.inj h); exact Prod.ext h1 h2⟩

theorem dsemE_ne (kj : Fin 4 × Fin 6) : dsemE kj ≠ SemLoc.reg barS := by
  intro h; change SemLoc.dma (dsem kj.1 kj.2) = SemLoc.reg barS at h; cases h

theorem count_one (j : Fin 6) : sends.count ((1 : Fin 4), j) = 1 ∧ sends.count ((3 : Fin 4), j) = 1 := by revert j; decide

theorem cred_once (c : Dev nD) (k : Fin 4) (h : ∀ j : Fin 6, sends.count (k, j) = 1) :
    (bigSep Finset.univ fun j : Fin 6 => (cred (tallyAt (dcell c k j) () (sends.count (k, j) * amt j)) : sProp 𝕄))
      ⊢ bigSep Finset.univ fun j : Fin 6 => cred (tallyAt (dcell c k j) () (amt j)) :=
  Entails.of_eq (bigSep_congr fun j _ => by rw [h j, Nat.one_mul])

theorem creds_intro (c : Dev nD) : (Pipeline.launchCred O₀ c : sProp 𝕄) ⊢ creds (F := F) c := by
  unfold Pipeline.launchCred creds
  rw [bigSep_univ_at _ (SemLoc.reg barS), launch_bar]
  refine sep_mono_right ?_
  refine (bigSep_subset (t := Finset.univ.map dsemE) fun s hs => ?_).trans ?_
  · obtain ⟨kj, -, rfl⟩ := Finset.mem_map.mp hs
    exact Finset.mem_erase.mpr ⟨(dsemE_ne kj), Finset.mem_univ _⟩
  · rw [bigSep_map, show (bigSep Finset.univ fun kj : Fin 4 × Fin 6 => (cred (tallyOn ((c : Thread nD τ), dsemE kj) (launchCredit (Pipeline.owing O₀) 0 ((c : Thread nD τ), dsemE kj))) : sProp 𝕄))
        = bigSep Finset.univ fun kj : Fin 4 × Fin 6 => cred (tallyAt (dcell c kj.1 kj.2) () (sends.count (kj.1, kj.2) * amt kj.2)) from
      bigSep_congr fun kj _ => congrArg (fun x => (cred x : sProp 𝕄)) (launch_dcell c kj.1 kj.2), by_step, bigSep_sep']
    show (_ : sProp 𝕄) ⊢ (_ : sProp 𝕄)
    iintro ⟨-, H1, -, H3⟩
    isplitl [H1]
    · iapply (cred_once (F := F) c 1 fun j => (count_one j).1); iexact H1
    · iapply (cred_once (F := F) c 3 fun j => (count_one j).2); iexact H3

/-! ## The launch -/

def T₀ (c : Dev nD) : sProp 𝕄 := iprop(StableHlo.held (c : Thread nD τ) (Pipeline.ucRefs τ sig) (V0 m c) ∗ E m 0 c)
def Tₙ (c : Dev nD) : sProp 𝕄 := iprop(StableHlo.held (c : Thread nD τ) (Pipeline.ucRefs τ sig) (V4 m (outs m) c) ∗ semVal (barCell c) 0)

/-- What of a device's launch holdings is not the protocol's. -/
def bundle (c : Dev nD) : sProp 𝕄 :=
  iprop(StableHlo.held (c : Thread nD τ) (Pipeline.ucRefs τ sig) (V0 m c) ∗ creds (F := F) c ∗ owes (c : Thread nD τ) (O₀ c) ∅ ∗ ∃ r, prngReg c r)

theorem T₀_intro (K : Dev nD × CI → ℕ) (c : Dev nD) : iprop(records (part m) K ∗ (linear₀ (F := F) c ∗ bundle m c)) ⊢ T₀ m c := by
  rw [show T₀ m c = iprop(StableHlo.held (c : Thread nD τ) (Pipeline.ucRefs τ sig) (V0 m c) ∗ E01 m c) from rfl]
  unfold bundle E01 Tk
  iintro ⟨HR, Hl, Hh, Hc, HO, Hp⟩
  isplitl [Hh]; · iexact Hh
  isplitl [HR Hl Hc]
  · isplitl [HR Hl]
    · iexists K
      isplitl [HR] <;> iassumption
    iexact Hc
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show (unscopedBufs c (fun b => m ((c.tc : Thread nD τ).loc b)) : sProp 𝕄) = StableHlo.held (c : Thread nD τ) (Pipeline.ucRefs τ sig) (V0 m c) from
      Pipeline.unscopedBufs_held c (V0 m c), unscopedSems0_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hr : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun kj : Fin 4 × Fin 6 => openTok ER (dcell c kj.1 kj.2)) :=
    Entails.of_eq (by rw [bigSep_map, bigSep_univ_prod]; rfl)
  have hinv (κ : GSem nD τ sig → ℕ) : bigSep (barCells ∪ scCells) (fun g => (cellInv ER (bRd (part m)) (κ g) g : sProp 𝕄))
      ⊢ bigSep Finset.univ (fun ck : Dev nD × CI => (cellInv ER (bRd (part m)) (κ (kcell ck)) (kcell ck) : sProp 𝕄)) :=
    Entails.of_eq (by rw [cells_eq, bigSep_map]; rfl)
  have htok : bigSep allToks (fun x => (dutyTok ER x.1 x.2.1 x.2.2 : sProp 𝕄)) ⊢ bigSep Finset.univ fun c : Dev nD => payToks (F := F) c :=
    Entails.of_eq ((show _ = bigSep Finset.univ fun c : Dev nD => bigSep Finset.univ fun t : TI => tok (F := F) c t by
      unfold allToks; rw [bigSep_map, bigSep_univ_prod]; rfl).trans toks_around)
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (unpair _ _) $$ H'; icases H2 with ⟨HB, H3⟩
  ihave H4 := (unpair _ _) $$ H3; icases H4 with ⟨Hv, HG⟩
  ihave Hu := (show bigSep Finset.univ (G (F := F)) ⊢ BI.own (ER (launchOf barCells scCells allToks)) from
    Entails.of_eq (bigSep_onDev (F := F) 0 (BI.own (ER (launchOf barCells scCells allToks))))) $$ HG
  imod (Rounds.fund_launch ER (bRd (part m)) disjoint_cells (fun g _ h => h) allToks) $$ [Hv Hu] with ⟨%κ, -, Hinv, Hr, Hat, Hopen, Htok⟩
  · isplitl [Hv]
    · iapply hv $$ Hv
    · iexact Hu
  imodintro
  iapply (bigSep_with_persistent (R := records (part m) (fun ck => κ (kcell ck))) (Φ := fun c => iprop(linear₀ (F := F) c ∗ bundle m c)) fun c _ => T₀_intro m _ c)
  isplitl [Hinv Hr]
  · unfold records
    isplitl [Hinv]
    · iapply (hinv κ) $$ Hinv
    iapply hr $$ Hr
  iapply (paired _ _)
  isplitr [HB]
  · unfold linear₀
    iapply (paired _ _); isplitl [Hat]; · iapply hat $$ Hat
    iapply (paired _ _); isplitl [Hopen]; · iapply hopen $$ Hopen
    iapply htok $$ Htok
  · iexact HB

theorem unscoped_eq : ∀ sm : SemLoc sig, sm.isScoped .tc = false → sm = .reg barS := by decide

/-- What a device's memory holds at the end. -/
def QY (c : Dev nD) (s : MemSt nD τ sig (Elt F)) : Prop :=
  (∀ b ∈ Pipeline.ucRefs τ sig, s.mem ((c : Thread nD τ).1, b) = V4 m (outs m) c b) ∧ s.sem (barCell c) = 0

theorem fin_read (c : Dev nD) (s' : Phys nD τ sig (Elt F)) : iprop(Tₙ m c ∗ SI s') ⊢ (|={Set.univ}=> iprop(⌜QY m c s'.mem⌝ ∗ SI s') : sProp 𝕄) := by
  unfold Tₙ StableHlo.held
  iintro ⟨⟨Hh, Hb0⟩, HSI⟩
  ihave Hr := (pointsTo_read_all (Pipeline.ucRefs τ sig) (fun b => ((c : Thread nD τ).1, b)) (V4 m (outs m) c) s') $$ [Hh HSI]
  · isplitl [Hh] <;> iassumption
  icases Hr with ⟨%h, HSI⟩
  icombine HSI Hb0 gives %hb
  imodintro
  isplitr
  · ipureintro
    exact ⟨h, by simpa using hb⟩
  iexact HSI

set_option backward.isDefEq.respectTransparency.types false in
/-- From any memory with zero counters, every weakly fair execution of the program on the eight devices terminates; every final
    state holds the computed arrays and zero in every semaphore counter. -/
theorem run_all : θ_run defs (onTc (τ := τ) (main (F := F))) ⟨m, fun _ => 0, ρ⟩ (fun r => (∀ c : Dev nD, QY m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (reg0 m) (reg1 m))
    (fun c Q => by
      rewrite [main_chain c, Seg.run_eq_chain,
        show (segs m (outs m) 𝒱₀ L lv (E m) () (pdats m) (reg0 m) (reg1 m) c).map Seg.prog = [
          StableHlo.seq (hostOps0 c),
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onDev]; iexact HX)
    (T₀ m) (Tₙ m)
    (fun c => ⟨.rfl, hpre0 m c, (hpost0 m c).trans (hpre1 m c), hpost1 m c, by
      show iprop(StableHlo.held (c : Thread nD τ) (Pipeline.ucRefs τ sig) (V4 m (outs m) c) ∗ (semVal (barCell c) 0 ∗ ∃ W, owes (c : Thread nD τ) (0 : CellTallies nD τ sig Unit) W))
        ⊢ iprop((StableHlo.held (c : Thread nD τ) (Pipeline.ucRefs τ sig) (V4 m (outs m) c) ∗ semVal (barCell c) 0) ∗ ∃ W, owes (c : Thread nD τ) (0 : CellTallies nD τ sig Unit) W)
      iintro ⟨Hh, Hb0, HO⟩
      isplitr [HO]
      · isplitl [Hh] <;> iassumption
      · iexact HO⟩)
    (init m ρ) (QY m) (fin_read m)
    (fun s h hs => ⟨h, sem_eq_zero hs fun c sm hsm => by
      obtain rfl := unscoped_eq sm hsm
      exact (h c).2⟩)

theorem QY.at {c : Dev nD} {s : MemSt nD τ sig (Elt F)} (h : QY m c s) (b : Ref sig .tc) (hb : (Proc.devRef (τ := τ) .tc b).isScoped = false) :
    s.mem ((c : Thread nD τ).loc b) = V4 m (outs m) c (Proc.devRef .tc b) :=
  h.1 (Proc.devRef .tc b) (Finset.mem_filter.mpr ⟨StableHlo.devRef_mem_tcRefs b, by simp [hb]⟩)

/-- … so the arguments are as they were, the result holds the total of the devices' partial results. -/
theorem run_main : θ_run defs (onTc (τ := τ) (main (F := F))) ⟨m, fun _ => 0, ρ⟩ (fun r => (∀ c : Dev nD,
      r.2.mem ((c : Thread nD τ).loc main_v27) = V4 m (outs m) c main_v27
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c => ⟨(h.1 c).at m main_v27 (by decide),
    ((h.1 c).at m main_arg0 (by decide)).trans (V4_main_arg0 m (outs m) c), ((h.1 c).at m main_arg1 (by decide)).trans (V4_main_arg1 m (outs m) c),
    ((h.1 c).at m main_arg2 (by decide)).trans (V4_main_arg2 m (outs m) c), ((h.1 c).at m main_arg3 (by decide)).trans (V4_main_arg3 m (outs m) c),
    ((h.1 c).at m main_arg4 (by decide)).trans (V4_main_arg4 m (outs m) c)⟩, h.2⟩) (run_all m ρ)

end Cert.KernelIdealProof

end
-- ==== Proof.Total.lean ====
/-
# The sum

The butterfly's total over the extended reals is the sum over the eight devices: every device's contribution comes in once.
-/
module

public import proofs.«01_k».proof.Proof.Rows
public import Idealize.ShloMosaic.PureOps.Ideal

@[expose] public section

noncomputable section

namespace Cert.Butterfly

/-- The devices whose contributions device `c` collects in half `h`, in the order of the additions. -/
def walk (h : Fin 2) (c : Fin 8) : Fin 8 → Fin 8 :=
  let a := par (ord h 0); let b := par (ord h 1); let d := par (ord h 2)
  ![c, a c, b c, a (b c), d c, a (d c), b (d c), a (b (d c))]

theorem walk_bijective : ∀ h c, Function.Bijective (walk h c) := by decide

/-- Three stages from any device collect all eight contributions. -/
theorem acc_three {ι : Type} (P : Fin 8 → ι → EReal) (h : Fin 2) (c : Fin 8) (i : ι) :
    acc (· + ·) P h 3 c i = ∑ d : Fin 8, P d i := by
  rw [← (walk_bijective h c).sum_comp fun d => P d i, Fin.sum_univ_eight]
  show ((P c i + P _ i) + (P _ i + P _ i)) + ((P _ i + P _ i) + (P _ i + P _ i)) = _
  simp only [add_assoc]
  rfl

theorem total_sum (P : Fin 8 → Ix 2048 → EReal) (i : Ix 2048) : total (· + ·) P i = ∑ d : Fin 8, P d i := by
  unfold total
  split <;> exact acc_three P _ _ i

end Cert.Butterfly

end
-- ==== Proof.Attention.lean ====
/-
# Windowed attention over the extended reals

The row of attention that both programs compute: masked scores, their softmax, and the weighted sum of the values. A key
outside the window has the score −∞ and the weight zero, so the row over all keys is the row over any span of keys that
holds the window, as long as the scores are below ∞ and one of them is above −∞. The projected rows' sum over 8192 columns
is the sum over devices, heads and columns of a head.
-/
module

public import Idealize.ShloMosaic.PureOps.Ideal
public import Idealize.ShloMosaic.PureOps.Ideal.Laws
public import Idealize.ShloMosaic.Lib.Affine

@[expose] public section

noncomputable section

namespace Cert.Attention

open Idealize.ShloMosaic

/-! ## The operations' corners -/

theorem exp_nonneg (x : EReal) : 0 ≤ Ideal.exp x := by
  induction x with
  | bot => exact le_refl _
  | top => exact le_top
  | coe r => exact EReal.coe_nonneg.mpr (Real.exp_pos r).le

theorem exp_pos {x : EReal} (h : x ≠ ⊥) : 0 < Ideal.exp x := by
  induction x with
  | bot => exact absurd rfl h
  | top => exact EReal.zero_lt_top
  | coe r => exact EReal.coe_pos.mpr (Real.exp_pos r)

theorem exp_bot_sub (m : EReal) : Ideal.exp (⊥ - m) = 0 := by
  rw [EReal.bot_sub]; rfl

theorem div_zero_left {y : EReal} (h : y ≠ 0) : Ideal.div 0 y = 0 := by
  unfold Ideal.div; rw [if_neg h, zero_mul]

theorem sub_ne_bot {x m : EReal} (hx : x ≠ ⊥) (hm : m ≠ ⊤) : x - m ≠ ⊥ := by
  rw [sub_eq_add_neg, Ne, EReal.add_eq_bot_iff, not_or, EReal.neg_eq_bot_iff]
  exact ⟨hx, hm⟩

/-! ## Finite values -/

/-- A value that is neither infinity. -/
def Fin' (x : EReal) : Prop := x ≠ ⊥ ∧ x ≠ ⊤

theorem fin_coe (r : ℝ) : Fin' (r : EReal) := ⟨EReal.coe_ne_bot r, EReal.coe_ne_top r⟩
theorem fin_real {x : EReal} (h : Fin' x) : ∃ r : ℝ, x = r := ⟨x.toReal, (EReal.coe_toReal h.2 h.1).symm⟩
theorem fin_mul {x y : EReal} (hx : Fin' x) (hy : Fin' y) : Fin' (x * y) := by
  obtain ⟨a, rfl⟩ := fin_real hx
  obtain ⟨b, rfl⟩ := fin_real hy
  rw [← EReal.coe_mul]; exact fin_coe _
theorem fin_add {x y : EReal} (hx : Fin' x) (hy : Fin' y) : Fin' (x + y) := by
  obtain ⟨a, rfl⟩ := fin_real hx
  obtain ⟨b, rfl⟩ := fin_real hy
  rw [← EReal.coe_add]; exact fin_coe _
theorem fin_sum {ι : Type} (s : Finset ι) (f : ι → EReal) (h : ∀ i, Fin' (f i)) : Fin' (∑ i ∈ s, f i) :=
  Finset.sum_induction f Fin' (fun _ _ => fin_add) (fin_coe 0) fun i _ => h i

/-- A value whose absolute value is below ∞. -/
theorem fin_of_abs {x : EReal} (h : max x (-x) < ⊤) : Fin' x := by
  obtain ⟨h1, h2⟩ := max_lt_iff.mp h
  refine ⟨fun e => ?_, h1.ne⟩
  rw [e, EReal.neg_bot] at h2
  exact lt_irrefl _ h2

/-- A nonnegative finite factor comes out of a sum. -/
theorem sum_mul_scale {ι : Type} (s : Finset ι) (f : ι → EReal) {a : EReal} (h0 : 0 ≤ a) (h1 : a ≠ ⊤) :
    (∑ i ∈ s, f i) * a = ∑ i ∈ s, f i * a := by
  classical
  induction s using Finset.induction_on with
  | empty => rw [Finset.sum_empty, Finset.sum_empty, zero_mul]
  | insert i s hi ih => rw [Finset.sum_insert hi, Finset.sum_insert hi, EReal.right_distrib_of_nonneg_of_ne_top h0 h1, ih]

/-- The scale of the scores: the number the word 0x3DB504F3 denotes. -/
def scale : EReal := Ideal.ofBits .f32 0x3DB504F3#32

theorem scale_real : ∃ r : ℝ, 0 ≤ r ∧ scale = r := by
  unfold scale Ideal.ofBits Ideal.ieee
  have h1 : (BitVec.extractLsb' (8 + 23) 1 (0x3DB504F3#32) == 1#1) = false := by decide
  have h2 : (BitVec.extractLsb' 23 8 (0x3DB504F3#32)).toNat = 123 := by decide
  simp only [h1, h2]
  rw [if_neg (by decide), if_neg (by decide), if_neg (by decide)]
  exact ⟨_, by positivity, rfl⟩

theorem scale_fin : Fin' scale := by obtain ⟨r, _, h⟩ := scale_real; rw [h]; exact fin_coe r
theorem scale_nonneg : 0 ≤ scale := by obtain ⟨r, h0, h⟩ := scale_real; rw [h]; exact EReal.coe_nonneg.mpr h0

/-! ## A row of attention -/

/-- The largest score. -/
def top {n : ℕ} (σ : Fin n → EReal) : EReal := Finset.univ.fold max ⊥ σ
/-- The softmax of the scores `σ` against the values `v`. -/
def soft {n : ℕ} (σ v : Fin n → EReal) : EReal :=
  ∑ j, Ideal.div (Ideal.exp (σ j - top σ)) (∑ l, Ideal.exp (σ l - top σ)) * v j

theorem top_eq_sup {n : ℕ} (σ : Fin n → EReal) : top σ = Finset.univ.sup σ := rfl

section Span

variable (σ : Fin 2048 → EReal) (o : ℕ) (ho : o + 512 ≤ 2048)

/-- Key `l` of the span that starts at `o`. -/
def spanKey (l : Fin 512) : Fin 2048 := ⟨o + l.val, by omega⟩

theorem spanKey_injective : Function.Injective (spanKey o ho) := fun a b h => by
  have : o + a.val = o + b.val := congrArg Fin.val h
  exact Fin.ext (by omega)

variable (hout : ∀ j : Fin 2048, ¬ (o ≤ j.val ∧ j.val < o + 512) → σ j = ⊥)

theorem not_span {j : Fin 2048} (h : j ∉ Finset.univ.map ⟨spanKey o ho, spanKey_injective o ho⟩) : ¬ (o ≤ j.val ∧ j.val < o + 512) :=
  fun hj => h (Finset.mem_map.mpr ⟨⟨j.val - o, by omega⟩, Finset.mem_univ _, Fin.ext (by show o + (j.val - o) = j.val; omega)⟩)

include hout in
theorem top_span : top σ = top fun l => σ (spanKey o ho l) := by
  rw [top_eq_sup, top_eq_sup]
  refine le_antisymm (Finset.sup_le fun j _ => ?_) (Finset.sup_le fun l _ => Finset.le_sup (f := σ) (Finset.mem_univ _))
  by_cases h : o ≤ j.val ∧ j.val < o + 512
  · have e : spanKey o ho ⟨j.val - o, by omega⟩ = j := Fin.ext (by show o + (j.val - o) = j.val; omega)
    have := Finset.le_sup (f := fun l => σ (spanKey o ho l)) (Finset.mem_univ (⟨j.val - o, by omega⟩ : Fin 512))
    simpa only [e] using this
  · rw [hout j h]; exact bot_le

/-- A sum of terms that are zero outside the span is the sum over the span. -/
theorem sum_span (f : Fin 2048 → EReal) (hf : ∀ j : Fin 2048, ¬ (o ≤ j.val ∧ j.val < o + 512) → f j = 0) :
    ∑ j, f j = ∑ l, f (spanKey o ho l) := by
  rw [← Finset.sum_subset (Finset.subset_univ (Finset.univ.map ⟨spanKey o ho, spanKey_injective o ho⟩)) fun j _ h => hf j (not_span o ho h)]
  rw [Finset.sum_map]
  rfl

/-- The row over all keys is the row over the span. -/
theorem soft_span (v : Fin 2048 → EReal) (j₀ : Fin 2048) (hj : σ j₀ ≠ ⊥) (ht : ∀ j, σ j ≠ ⊤)
    (hout : ∀ j : Fin 2048, ¬ (o ≤ j.val ∧ j.val < o + 512) → σ j = ⊥) :
    soft σ v = soft (fun l => σ (spanKey o ho l)) (fun l => v (spanKey o ho l)) := by
  have hm : top σ ≠ ⊤ := by
    rw [top_eq_sup]
    exact ((Finset.sup_lt_iff bot_lt_top).mpr fun j _ => lt_top_iff_ne_top.mpr (ht j)).ne
  have hden : (∑ l, Ideal.exp (σ l - top σ)) ≠ 0 :=
    (lt_of_lt_of_le (exp_pos (sub_ne_bot hj hm))
      (Finset.single_le_sum (f := fun l => Ideal.exp (σ l - top σ)) (fun l _ => exp_nonneg _) (Finset.mem_univ j₀))).ne'
  have e1 : ∀ j : Fin 2048, ¬ (o ≤ j.val ∧ j.val < o + 512) → Ideal.exp (σ j - top σ) = 0 := fun j h => by
    rw [hout j h]; exact exp_bot_sub _
  unfold soft
  rw [sum_span o ho (fun j => Ideal.div (Ideal.exp (σ j - top σ)) (∑ l, Ideal.exp (σ l - top σ)) * v j) fun j h => by
    rw [e1 j h, div_zero_left hden, zero_mul]]
  rw [sum_span o ho (fun l => Ideal.exp (σ l - top σ)) e1, ← top_span σ o ho hout]

end Span

/-! ## The layer -/

/-- Key `j` is in row `i`'s window. -/
abbrev near (i j : ℕ) : Prop := i ≤ j + 128 ∧ j ≤ i + 128

/-- The comparison that both programs make for it on index words. -/
theorem near_word {i j : ℕ} (hi : i < 2048) (hj : j < 2048) :
    IntOp.cmpi .sle (IntOp.absi (IntOp.subi (BitVec.ofNat 32 i) (BitVec.ofNat 32 j))) 128#32 = 1#1 ↔ near i j := by
  have hd : (BitVec.ofNat 32 i - BitVec.ofNat 32 j).toInt = (i : ℤ) - j := by
    rw [BitVec.toInt_sub, BitVec.toInt_ofNat', BitVec.toInt_ofNat']
    simp only [Int.bmod]
    omega
  have ha : (IntOp.absi (IntOp.subi (BitVec.ofNat 32 i) (BitVec.ofNat 32 j))).toInt = |(i : ℤ) - j| := by
    unfold IntOp.absi IntOp.subi
    rw [BitVec.msb_eq_toInt]
    by_cases h : (BitVec.ofNat 32 i - BitVec.ofNat 32 j).toInt < 0
    · rw [if_pos (by simpa using h), BitVec.toInt_neg, hd, abs_of_neg (hd ▸ h)]
      rw [hd] at h
      simp only [Int.bmod]
      omega
    · rw [if_neg (by simpa using h), hd, abs_of_nonneg (hd ▸ not_lt.mp h)]
  rw [IntOp.cmpi_sle, ha, abs_le]
  have : (128#32).toInt = 128 := by decide
  rw [this]
  constructor
  · rintro ⟨h1, h2⟩; exact ⟨by omega, by omega⟩
  · rintro ⟨h1, h2⟩; exact ⟨by omega, by omega⟩

/-- A choice by a bit that says a proposition. -/
theorem select_iff {α : Type} {b : BitVec 1} {p : Prop} [Decidable p] (h : b = 1#1 ↔ p) (x y : α) : Scalar.select b x y = if p then x else y := by
  unfold Scalar.select
  by_cases hp : p
  · rw [if_pos hp]; exact if_pos (h.mpr hp)
  · rw [if_neg hp]; exact if_neg (fun e => hp (h.mp e))

theorem select_one {α : Type} {b : BitVec 1} (h : b = 1#1) (x y : α) : Scalar.select b x y = x := by
  subst h; rfl

theorem neg_inf : Ideal.ofBits .f32 0xFF800000#32 = ⊥ := by
  simp [Ideal.ofBits, Ideal.ieee]
theorem pos_inf : Ideal.ofBits .f32 0x7F800000#32 = ⊤ := by
  simp [Ideal.ofBits, Ideal.ieee]

variable (X : Fin 2048 → Fin 1024 → EReal) (W : Fin 1024 → Fin 8192 → EReal) (K V : Fin 2048 → Fin 64 → Fin 128 → EReal)
  (O : Fin 8192 → Fin 1024 → EReal)

/-- Column `d` of head `h`, of the 8192. -/
def col (h : Fin 64) (d : Fin 128) : Fin 8192 := ⟨h.val * 128 + d.val, by omega⟩
/-- Head `g` of device `c`, of the 64. -/
def head (c g : Fin 8) : Fin 64 := ⟨c.val * 8 + g.val, by omega⟩

/-- The projected query. -/
def query (h : Fin 64) (i : Fin 2048) (d : Fin 128) : EReal := ∑ e, X i e * W e (col h d)
/-- The masked, scaled scores of a row. -/
def score (h : Fin 64) (i j : Fin 2048) : EReal :=
  if near i.val j.val then (∑ d, query X W h i d * K j h d) * scale else ⊥
/-- A head's attention row. -/
def attn (h : Fin 64) (i : Fin 2048) (d : Fin 128) : EReal := soft (score X W K h i) fun j => V j h d
/-- The layer's result. -/
def layer (i : Fin 2048) (n : Fin 1024) : EReal :=
  ∑ t : Fin 8192, attn X W K V ⟨t.val / 128, by omega⟩ i ⟨t.val % 128, Nat.mod_lt _ (by decide)⟩ * O t n

/-- The layer's result, device by device and head by head. -/
theorem layer_eq (i : Fin 2048) (n : Fin 1024) :
    layer X W K V O i n = ∑ c : Fin 8, ∑ g : Fin 8, ∑ d : Fin 128, attn X W K V (head c g) i d * O (col (head c g) d) n := by
  have e1 : ∀ f : Fin 8192 → EReal, ∑ t, f t = ∑ h : Fin 64, ∑ d : Fin 128, f (col h d) := fun f => by
    rw [← (finProdFinEquiv (m := 64) (n := 128)).sum_comp f, Fintype.sum_prod_type]
    refine Finset.sum_congr rfl fun h _ => Finset.sum_congr rfl fun d _ => congrArg f (Fin.ext ?_)
    show d.val + 128 * h.val = h.val * 128 + d.val
    omega
  have e2 : ∀ f : Fin 64 → EReal, ∑ h, f h = ∑ c : Fin 8, ∑ g : Fin 8, f (head c g) := fun f => by
    rw [← (finProdFinEquiv (m := 8) (n := 8)).sum_comp f, Fintype.sum_prod_type]
    refine Finset.sum_congr rfl fun c _ => Finset.sum_congr rfl fun g _ => congrArg f (Fin.ext ?_)
    show g.val + 8 * c.val = c.val * 8 + g.val
    omega
  unfold layer
  rw [e1, e2]
  refine Finset.sum_congr rfl fun c _ => Finset.sum_congr rfl fun g _ => Finset.sum_congr rfl fun d _ => ?_
  have h1 : (⟨(col (head c g) d).val / 128, by omega⟩ : Fin 64) = head c g := Fin.ext (by
    show ((head c g).val * 128 + d.val) / 128 = _; omega)
  have h2 : (⟨(col (head c g) d).val % 128, Nat.mod_lt _ (by decide)⟩ : Fin 128) = d := Fin.ext (by
    show ((head c g).val * 128 + d.val) % 128 = _; omega)
  rw [h1, h2]

variable {X W K}

theorem score_fin (hX : ∀ i e, Fin' (X i e)) (hW : ∀ e t, Fin' (W e t)) (hK : ∀ j h d, Fin' (K j h d)) (h : Fin 64) (i j : Fin 2048) :
    score X W K h i j ≠ ⊤ ∧ (near i.val j.val → score X W K h i j ≠ ⊥) := by
  have hs : Fin' ((∑ d, query X W h i d * K j h d) * scale) :=
    fin_mul (fin_sum _ _ fun d => fin_mul (fin_sum _ _ fun e => fin_mul (hX i e) (hW e _)) (hK j h d)) scale_fin
  unfold score
  by_cases hn : near i.val j.val
  · rw [if_pos hn]; exact ⟨hs.2, fun _ => hs.1⟩
  · rw [if_neg hn]; exact ⟨bot_ne_top, fun h => absurd h hn⟩

/-- A head's attention row over a span of 512 keys that holds the row's window, the queries scaled before they meet the keys. -/
theorem attn_span (hX : ∀ i e, Fin' (X i e)) (hW : ∀ e t, Fin' (W e t)) (hK : ∀ j h d, Fin' (K j h d)) (h : Fin 64) (i : Fin 2048) (d : Fin 128)
    (o : ℕ) (ho : o + 512 ≤ 2048) (hlo : o ≤ i.val - 128) (hhi : i.val + 128 < o + 512 ∨ o + 512 = 2048) :
    attn X W K V h i d
      = soft (fun l : Fin 512 => if near i.val (o + l.val) then ∑ d, query X W h i d * scale * K (spanKey o ho l) h d else ⊥)
          fun l => V (spanKey o ho l) h d := by
  unfold attn
  rw [soft_span (score X W K h i) o ho _ i ((score_fin hX hW hK h i i).2 ⟨by omega, by omega⟩) (fun j => (score_fin hX hW hK h i j).1)
    fun j hj => by unfold score; rw [if_neg (fun hn => hj (by have := hn.1; have := hn.2; have := j.isLt; omega))]]
  congr 1
  funext l
  unfold score
  show (if near i.val (o + l.val) then _ else _) = _
  by_cases hn : near i.val (o + l.val)
  · rw [if_pos hn, if_pos hn, sum_mul_scale _ _ scale_nonneg scale_fin.2]
    refine Finset.sum_congr rfl fun e _ => ?_
    rw [mul_assoc, mul_assoc, mul_comm scale]
  · rw [if_neg hn, if_neg hn]

end Cert.Attention

end
-- ==== Proof.KernelIdealOperands.lean ====
/-
# The compute kernel's operands, element by element

The host prepares the compute kernel's operands from the program's arguments: it drops the batch axis, cuts out the device's
eight heads of keys and values and turns them head by head. This module reads each prepared array at an index.
-/
module

public import proofs.«01_k».proof.Proof.Attention
public import proofs.«01_k».proof.Proof.KernelIdealSegs
public import Idealize.ShloMosaic.Lib.Pointwise
public import Idealize.ShloMosaic.Lib.DynamicIndex
public import Idealize.ShloMosaic.Lib.StableHlo.Run

@[expose] public section

noncomputable section

namespace Cert.KernelIdealProof

open Cert.KernelIdeal Cert.KernelIdeal.Gen Cert.Attention
open Idealize.ShloMosaic Idealize.ShloMosaic.TcCoe Idealize.ShloMosaic.StableHlo Idealize.SL.Sem

variable (m : (ℓ : Loc nD τ sig) → Buf (Elt Ideal) ℓ) (c : Dev nD)

abbrev arg (r : Ref sig .tc) : Buf (Elt Ideal) ((c.tc : Thread nD τ).loc r) := m ((c.tc : Thread nD τ).loc r)

/-- The first of the device's heads, as a word. -/
def firstHead : IVec S_ 32 :=
  muli (Host.remui (Host.divui (constantI S_ 32 (Dev.word c)) (constantI S_ 32 1#32)) (constantI S_ 32 8#32)) (constantI S_ 32 8#32)
/-- The start of the device's heads, a negative one counted from the end. -/
def start : IVec S_ 32 := select (cmpi .slt (firstHead c) (constantI S_ 32 0#32)) (addi (firstHead c) (constantI S_ 32 64#32)) (firstHead c)
def starts : Fin 3 → IVec S_ 32 := ![constantI S_ 32 0#32, start c, constantI S_ 32 0#32]

/-- The device's heads of keys or values, head by head. -/
def heads (x : FVec Ideal S1x2048x64x128 .f32) : FVec Ideal S8x2048x128 .bf16 :=
  truncf .bf16 (transpose S8x2048x128 [1, 0, 2] (Host.dynamicSlice S2048x8x128 (shapeCast S2048x64x128 x shapeCasts_S1x2048x64x128_S2048x64x128)
    (fun k => (starts c k (Shape.Idx.first h_S_)).toInt) sliceFits_S2048x64x128_S2048x8x128) transposes_S2048x8x128_S8x2048x128_1_0_2) bitsLt_bf16_f32

/-- The rows without the batch axis, and an array as it is, in the kernel's format. -/
def flat (x : FVec Ideal S1x2048x1024 .f32) : FVec Ideal S2048x1024 .bf16 :=
  truncf .bf16 (shapeCast S2048x1024 x shapeCasts_S1x2048x1024_S2048x1024) bitsLt_bf16_f32
def narrow (x : FVec Ideal S1024x1024 .f32) : FVec Ideal S1024x1024 .bf16 := truncf .bf16 x bitsLt_bf16_f32

set_option maxHeartbeats 2000000 in
theorem v22_eq : V1 m c main_v22 = flat (arg m c main_arg0) := by
  show StableHlo.after (hostOps0 c) (V0 m c) _ = _
  after_results_simp
  rfl

set_option maxHeartbeats 2000000 in
theorem v23_eq : V1 m c main_v23 = narrow (arg m c main_arg1) := by
  show StableHlo.after (hostOps0 c) (V0 m c) _ = _
  after_results_simp
  rfl

set_option maxHeartbeats 2000000 in
theorem v24_eq : V1 m c main_v24 = narrow (arg m c main_arg4) := by
  show StableHlo.after (hostOps0 c) (V0 m c) _ = _
  after_results_simp
  rfl

theorem heads_of (x : FVec Ideal S1x2048x64x128 .f32) (s : Fin 3 → Int) (hs : ∀ k, s k = (starts c k (Shape.Idx.first h_S_)).toInt) :
    truncf .bf16 (transpose S8x2048x128 [1, 0, 2] (Host.dynamicSlice S2048x8x128 (shapeCast S2048x64x128 x shapeCasts_S1x2048x64x128_S2048x64x128)
      s sliceFits_S2048x64x128_S2048x8x128) transposes_S2048x8x128_S8x2048x128_1_0_2) bitsLt_bf16_f32 = heads c x := by
  obtain rfl := funext hs
  rfl

set_option maxHeartbeats 1000000 in
theorem v12_eq : V1 m c main_v12 = heads c (arg m c main_arg2) := by
  show StableHlo.after (hostOps0 c) (V0 m c) _ = _
  after_results_simp
  refine heads_of c _ _ fun k => congrArg BitVec.toInt (congrFun ?_ _)
  match k with
  | ⟨0, _⟩ => (try dsimp only [Matrix.cons_val, Fin.zero_eta, Fin.mk_one, cast_eq]); (try after_results_simp); rfl
  | ⟨1, _⟩ => (try dsimp only [Matrix.cons_val, Fin.zero_eta, Fin.mk_one, cast_eq]); (try after_results_simp); rfl
  | ⟨2, _⟩ => (try dsimp only [Matrix.cons_val, Fin.zero_eta, Fin.mk_one, cast_eq]); (try after_results_simp); rfl

set_option maxHeartbeats 1000000 in
theorem v20_eq : V1 m c main_v20 = heads c (arg m c main_arg3) := by
  show StableHlo.after (hostOps0 c) (V0 m c) _ = _
  after_results_simp
  refine heads_of c _ _ fun k => congrArg BitVec.toInt (congrFun ?_ _)
  match k with
  | ⟨0, _⟩ => (try dsimp only [Matrix.cons_val, Fin.zero_eta, Fin.mk_one, cast_eq]); (try after_results_simp); rfl
  | ⟨1, _⟩ => (try dsimp only [Matrix.cons_val, Fin.zero_eta, Fin.mk_one, cast_eq]); (try after_results_simp); rfl
  | ⟨2, _⟩ => (try dsimp only [Matrix.cons_val, Fin.zero_eta, Fin.mk_one, cast_eq]); (try after_results_simp); rfl

theorem start_val : ∀ c : Dev nD, (start c (Shape.Idx.first h_S_)).toInt = ((c.val * 8 : ℕ) : ℤ) := by decide +kernel

theorem starts_val (k : Fin 3) : (starts c k (Shape.Idx.first h_S_)).toInt = ((![0, c.val * 8, 0] k : ℕ) : ℤ) := by
  match k with
  | ⟨0, _⟩ => rfl
  | ⟨1, _⟩ => exact start_val c
  | ⟨2, _⟩ => rfl

theorem heads_fit : S2048x64x128.Slices ![0, c.val * 8, 0] S2048x8x128 := by
  revert c; decide

theorem heads_apply (x : FVec Ideal S1x2048x64x128 .f32) (g : Fin 8) (j : Fin 2048) (d : Fin 128) :
    heads c x (ix3 g j d) = x (ix4 0 j (head c g) d) := by
  unfold heads head
  rw [Host.dynamicSlice_eq_extractStridedSlice _ _ _ ![0, c.val * 8, 0] _ (heads_fit c) (starts_val c)]
  pointwise

theorem flat_apply (x : FVec Ideal S1x2048x1024 .f32) (i : Fin 2048) (e : Fin 1024) : flat x (ix2 i e) = x (ix3 0 i e) := by
  unfold flat
  pointwise

theorem narrow_apply (x : FVec Ideal S1024x1024 .f32) (i : S1024x1024.Idx) : narrow x i = x i := rfl

end Cert.KernelIdealProof

end
-- ==== Proof.KernelIdealPayload.lean ====
/-
# What the compute kernel computes, element by element

Over the extended reals the compute kernel's block is a softmax over the 512 keys of its span, masked outside the row's window:
the projected queries, the scores, the mask and the weighted values, each read at an index.
-/
module

public import proofs.«01_k».proof.Proof.Attention
public import proofs.«01_k».proof.Proof.KernelIdealCompute
public import Idealize.ShloMosaic.Lib.Pointwise

@[expose] public section

noncomputable section

namespace Cert.KernelIdealProof

open Cert.KernelIdeal Cert.KernelIdeal.Gen Cert.Attention
open Idealize.ShloMosaic Idealize.ShloMosaic.TcCoe

theorem headPay1_apply (x : Vec Ideal S2048x1024 .bf16) (w : Vec Ideal S1024x128 .bf16) (i : Fin 2048) (d : Fin 128) :
    k0_pay1 x w (ix2 i d) = (∑ e : Fin 1024, x (ix2 i e) * w (ix2 e d)) * scale := by
  unfold k0_pay1 scale
  pointwise

theorem headPay3_apply (q : Vec Ideal S2048x128 .f32) (w : Vec Ideal S128x1024 .bf16) (i : Fin 2048) (n : Fin 1024) :
    k0_pay3 q w (ix2 i n) = ∑ d : Fin 128, q (ix2 i d) * w (ix2 d n) := by
  unfold k0_pay3
  pointwise

theorem headPay4_apply (q : Vec Ideal S2048x128 .f32) (w : Vec Ideal S128x1024 .bf16) (a : Vec Ideal S2048x1024 .f32) (i : Fin 2048) (n : Fin 1024) :
    k0_pay4 q w a (ix2 i n) = a (ix2 i n) + k0_pay3 q w (ix2 i n) := by
  unfold k0_pay4
  generalize k0_pay3 q w = p
  pointwise

section Block

variable (q : FVec Ideal S256x128 .f32) (k v : FVec Ideal S1x512x128 .bf16) (s w : FVec Ideal S256x512 .f32) (u : FVec Ideal S256 .f32)
  (r : Fin 256) (l : Fin 512) (d : Fin 128)

theorem raw_read : matmul (F := Ideal) dot_S256x128_S512x128_S256x512_1_1_0_0_n_n none (truncf .bf16 q bitsLt_bf16_f32)
    (shapeCast S512x128 k shapeCasts_S1x512x128_S512x128) (constant S256x512 .f32 0x00000000#32) (ix2 r l)
      = ∑ d : Fin 128, q (ix2 r d) * k (ix3 0 l d) := by
  pointwise

theorem largest_read : multiReduction (F := Ideal) .maximumf [1] S256 s 0xFF800000#32 reduces_S256x512_S256 (.inl rfl) rfl (ix1 r)
    = top fun l => s (ix2 r l) := by
  unfold top
  pointwise
  rw [neg_inf]

theorem total_read : multiReduction (F := Ideal) .add [1] S256 s 0x00000000#32 reduces_S256x512_S256 (.inl rfl) rfl (ix1 r)
    = ∑ l : Fin 512, s (ix2 r l) := by
  pointwise

theorem row_read : broadcastTo S256x512 (shapeCast S256x1 u shapeCasts_S256_S256x1) broadcasts_S256x1_S256x512 (ix2 r l) = u (ix1 r) := by
  pointwise

theorem out_read : matmul (F := Ideal) dot_S256x512_S512x128_S256x128_1_0_0_1_n_n none (truncf .bf16 w bitsLt_bf16_f32)
    (shapeCast S512x128 v shapeCasts_S1x512x128_S512x128) (constant S256x128 .f32 0x00000000#32) (ix2 r d)
      = ∑ l : Fin 512, w (ix2 r l) * v (ix3 0 l d) := by
  pointwise

theorem mask_read (A B : ℕ) (hA : A + 256 ≤ 2048) (hB : B + 512 ≤ 2048) :
    cmpi .sle (absi (subi (addi (broadcast S256x512 (BitVec.ofNat 32 A)) (iota .tc S256x512 32 [0] iota_S256x512_d0_w32))
      (addi (broadcast S256x512 (BitVec.ofNat 32 B)) (iota .tc S256x512 32 [1] iota_S256x512_d1_w32)))) (broadcast S256x512 128#32) (ix2 r l) = 1#1
      ↔ near (A + r.val) (B + l.val) := by
  pointwise
  rw [← near_word (by omega : A + r.val < 2048) (by omega : B + l.val < 2048), BitVec.ofNat_add, BitVec.ofNat_add]
  rfl

/-- The exponentials of the scores' distances to the row's largest. -/
def expo : FVec Ideal S256x512 .f32 :=
  exp (subf s (broadcastTo S256x512 (shapeCast S256x1 (multiReduction (F := Ideal) .maximumf [1] S256 s 0xFF800000#32 reduces_S256x512_S256 (.inl rfl) rfl)
    shapeCasts_S256_S256x1) broadcasts_S256x1_S256x512))
def share : FVec Ideal S256x512 .f32 :=
  divf w (broadcastTo S256x512 (shapeCast S256x1 (multiReduction (F := Ideal) .add [1] S256 w 0x00000000#32 reduces_S256x512_S256 (.inl rfl) rfl)
    shapeCasts_S256_S256x1) broadcasts_S256x1_S256x512)

theorem expo_apply : expo s (ix2 r l) = Ideal.exp (s (ix2 r l) - top fun l => s (ix2 r l)) :=
  congrArg (fun y => Ideal.exp (s (ix2 r l) - y)) ((row_read _ r l).trans (largest_read s r))
theorem share_apply : share w (ix2 r l) = Ideal.div (w (ix2 r l)) (∑ l, w (ix2 r l)) :=
  congrArg (fun y => Ideal.div (w (ix2 r l)) y) ((row_read _ r l).trans (total_read w r))

end Block

/-- The first key of a block's span. -/
def origin (t : Fin k0_t1_loop.trips) : ℕ := min 12 (2 * t.val - 1) * 128

theorem origin_word : ∀ t : Fin k0_t1_loop.trips,
    Scalar.muli (Scalar.minsi 12#32 (Scalar.maxsi 0#32 (Scalar.subi (Scalar.muli (Scf.iv 0#32 1#32 t) 2#32) 1#32))) 128#32 = BitVec.ofNat 32 (origin t) := by
  decide +kernel
theorem first_word : ∀ t : Fin k0_t1_loop.trips, Scalar.muli (Scf.iv 0#32 1#32 t) 256#32 = BitVec.ofNat 32 (256 * t.val) := by decide +kernel
theorem origin_off : ∀ t : Fin k0_t1_loop.trips, k0_off2 t = ![0, origin t, 0] := by decide +kernel
theorem origin_le : ∀ t : Fin k0_t1_loop.trips, origin t + 512 ≤ 2048 := by decide +kernel
theorem trip_le : ∀ t : Fin k0_t1_loop.trips, 256 * t.val + 256 ≤ 2048 := by decide +kernel

/-- The masked scores of a block. -/
def spanScores (t : Fin k0_t1_loop.trips) (q : FVec Ideal S256x128 .f32) (k : FVec Ideal S1x512x128 .bf16) : FVec Ideal S256x512 .f32 :=
  select (cmpi .sle (absi (subi (addi (broadcast S256x512 (BitVec.ofNat 32 (256 * t.val))) (iota .tc S256x512 32 [0] iota_S256x512_d0_w32))
      (addi (broadcast S256x512 (BitVec.ofNat 32 (origin t))) (iota .tc S256x512 32 [1] iota_S256x512_d1_w32)))) (broadcast S256x512 128#32))
    (matmul (F := Ideal) dot_S256x128_S512x128_S256x512_1_1_0_0_n_n none (truncf .bf16 q bitsLt_bf16_f32)
      (shapeCast S512x128 k shapeCasts_S1x512x128_S512x128) (constant S256x512 .f32 0x00000000#32))
    (broadcast S256x512 (Named.named (F := Ideal) κ "mask" 0xCE6E6B28#32))

theorem headPay5_eq (t : Fin k0_t1_loop.trips) (q : FVec Ideal S256x128 .f32) (k v : FVec Ideal S1x512x128 .bf16) :
    k0_pay5 0#32 1#32 t q k v = matmul (F := Ideal) dot_S256x512_S512x128_S256x128_1_0_0_1_n_n none (truncf .bf16 (share (expo (spanScores t q k))) bitsLt_bf16_f32)
      (shapeCast S512x128 v shapeCasts_S1x512x128_S512x128) (constant S256x128 .f32 0x00000000#32) := by
  unfold k0_pay5 spanScores share expo
  dsimp only
  rw [origin_word, first_word]

theorem spanScores_apply (t : Fin k0_t1_loop.trips) (q : FVec Ideal S256x128 .f32) (k : FVec Ideal S1x512x128 .bf16) (r : Fin 256) (l : Fin 512) :
    spanScores t q k (ix2 r l) = if near (256 * t.val + r.val) (origin t + l.val) then ∑ d : Fin 128, q (ix2 r d) * k (ix3 0 l d) else ⊥ := by
  unfold spanScores
  refine (select_iff (mask_read r l _ _ (trip_le t) (origin_le t)) _ _).trans ?_
  rw [raw_read]
  rfl

/-- A block's row: the softmax over the span, of the values. -/
theorem headPay5_apply (t : Fin k0_t1_loop.trips) (q : FVec Ideal S256x128 .f32) (k v : FVec Ideal S1x512x128 .bf16) (r : Fin 256) (d : Fin 128) :
    k0_pay5 (F := Ideal) 0#32 1#32 t q k v (ix2 r d)
      = soft (fun l : Fin 512 => if near (256 * t.val + r.val) (origin t + l.val) then ∑ d : Fin 128, q (ix2 r d) * k (ix3 0 l d) else ⊥)
          fun l => v (ix3 0 l d) := by
  rw [headPay5_eq, out_read]
  unfold soft
  simp only [share_apply, expo_apply, spanScores_apply]

theorem cast_same (x : FVec Ideal S256x128 .f32) : k0_pay2 x = x := by
  funext i
  obtain ⟨r, d, rfl⟩ : ∃ r d, i = ix2 r d := ⟨i 0, i 1, eq_ix2 i⟩
  unfold k0_pay2
  pointwise

/-- A row of the head's attention, over the span of the row's block. -/
theorem ctx_apply (q : Vec Ideal S2048x128 .f32) (k v : Vec Ideal S1x2048x128 .bf16) (i : Fin 2048) (d : Fin 128) (t : Fin k0_t1_loop.trips)
    (ht : t.val = i.val / 256) :
    ctx q k v (ix2 i d)
      = soft (fun l : Fin 512 => if near i.val (origin t + l.val) then ∑ d : Fin 128, q (ix2 i d) * k (ix3 0 (spanKey (origin t) (origin_le t) l) d) else ⊥)
          fun l => v (ix3 0 (spanKey (origin t) (origin_le t) l) d) := by
  have et : tripOf (ix2 i d) = t := Fin.ext ht.symm
  unfold ctx blockOut
  rw [et, cast_same]
  have ei : inBlk (ix2 i d) = ix2 (⟨i.val % 256, Nat.mod_lt _ (by decide)⟩ : Fin 256) d := by
    funext a
    match a with
    | ⟨0, _⟩ => rfl
    | ⟨1, _⟩ => rfl
  rw [ei, headPay5_apply]
  have hi : 256 * t.val + i.val % 256 = i.val := by omega
  have hq : ∀ e : Fin 128, qblk t q (ix2 (⟨i.val % 256, Nat.mod_lt _ (by decide)⟩ : Fin 256) e) = q (ix2 i e) := fun e => by
    have h := qrect_emb t (ix2 (⟨i.val % 256, Nat.mod_lt _ (by decide)⟩ : Fin 256) e)
    refine congrArg q (funext fun a => Fin.ext ?_)
    match a with
    | ⟨0, _⟩ => exact h.1.trans hi
    | ⟨1, _⟩ => exact h.2
  have hk : ∀ (x : Vec Ideal S1x2048x128 .bf16) (l : Fin 512) (e : Fin 128), kspan t x (ix3 0 l e) = x (ix3 0 (spanKey (origin t) (origin_le t) l) e) :=
    fun x l e => by
      have h := origin_off t
      refine congrArg x (funext fun a => Fin.ext ?_)
      match a with
      | ⟨0, _⟩ => show (k0_off2 t) 0 + 1 * 0 = 0; rw [h]; rfl
      | ⟨1, _⟩ => show (k0_off2 t) 1 + 1 * l.val = origin t + l.val; rw [h, Nat.one_mul]; rfl
      | ⟨2, _⟩ => show (k0_off2 t) 2 + 1 * e.val = e.val; rw [h, Nat.one_mul]; exact Nat.zero_add _
  simp only [hq, hk]
  show soft (fun l : Fin 512 => if near (256 * t.val + i.val % 256) _ then _ else _) _ = _
  rw [hi]

end Cert.KernelIdealProof

end
-- ==== Proof.KernelIdealValue.lean ====
/-
# The compute kernel's result

Every window's block, read off the operands; so one grid point adds one head's projected attention rows, the eight points leave
a device's partial result, and the total over the eight devices is the layer's result.
-/
module

public import proofs.«01_k».proof.Proof.Total
public import proofs.«01_k».proof.Proof.KernelIdealOperands
public import proofs.«01_k».proof.Proof.KernelIdealPayload

@[expose] public section

noncomputable section

namespace Cert.KernelIdealProof

open Cert.KernelIdeal Cert.KernelIdeal.Gen Cert.Attention Cert.Butterfly
open Idealize.ShloMosaic Idealize.ShloMosaic.TcCoe Idealize.ShloMosaic.StableHlo Idealize.SL.Sem

/-! ## The blocks -/

section Blocks

variable (V : Dev nD → Valuation τ sig (Elt Ideal)) (c : Dev nD)

theorem index_1 : ∀ t : Fin cfg0.N, cc0_transform_1 (grid0.coords t) = ![0, t.val] := by decide +kernel
theorem index_2 : ∀ t : Fin cfg0.N, cc0_transform_2 (grid0.coords t) = ![t.val, 0, 0] := by decide +kernel
theorem index_3 : ∀ t : Fin cfg0.N, cc0_transform_3 (grid0.coords t) = ![t.val, 0, 0] := by decide +kernel
theorem index_4 : ∀ t : Fin cfg0.N, cc0_transform_4 (grid0.coords t) = ![t.val, 0] := by decide +kernel

theorem points (t : Fin cfg0.N) : t.val < 8 := lt_of_lt_of_eq t.isLt N_0

/-- A fetched block, read in its array. -/
theorem blk_fetched (w : Fin 6) (t : Fin cfg0.N) (hf : (cfg0.win w).fetch t = true) :
    blk0 V c w t = (cfg0.win w).fill (grid0.coords t) (fun _ => Classical.arbitrary _) (((cfg0.win w).blk t).view.read (Elt Ideal) (arr0 V c w)) :=
  Pipeline.heldIn_of_fetch (c := c) (cfg := cfg0) (arr0 V c) w t hf

theorem blk_0 (t : Fin cfg0.N) (i : Fin 2048) (e : Fin 1024) : blk0 V c 0 t (ix2 i e) = V c main_v22 (ix2 i e) := by
  have h0 : ∀ h : 0 < cfg0.N, blk0 V c 0 ⟨0, h⟩ (ix2 i e) = V c main_v22 (ix2 i e) := fun h => by
    rw [blk_fetched V c 0 ⟨0, h⟩ ((fetch0_0 ⟨0, h⟩).mpr rfl)]
    refine congrArg (V c main_v22) (funext fun a => Fin.ext ?_)
    match a with
    | ⟨0, _⟩ => show 0 * 2048 + 1 * i.val = i.val; omega
    | ⟨1, _⟩ => show 0 * 1024 + 1 * e.val = e.val; omega
  obtain ⟨n, hn⟩ := t
  induction n with
  | zero => exact h0 hn
  | succ n ih =>
    have h8 := points ⟨n + 1, hn⟩
    have hf : (cfg0.win 0).fetch ⟨n + 1, hn⟩ = false := Bool.eq_false_iff.mpr fun h => by
      have h' : (n + 1) % 8 = 0 := (fetch0_0 ⟨n + 1, hn⟩).mp h
      have h9 : n + 1 < 8 := h8
      omega
    exact (congrFun (Pipeline.heldIn_of_not_fetch (c := c) (cfg := cfg0) (arr0 V c) 0 n hn hf) _).trans (ih (Nat.lt_of_succ_lt hn))

theorem blk_1 (t : Fin cfg0.N) (e : Fin 1024) (d : Fin 128) :
    blk0 V c 1 t (ix2 e d) = V c main_v23 (ix2 e (⟨t.val * 128 + d.val, by have := points t; omega⟩ : Fin 1024)) := by
  rw [blk_fetched V c 1 t (fetch0_1 t)]
  refine congrArg (V c main_v23) (funext fun a => Fin.ext ?_)
  have h := index_1 t
  match a with
  | ⟨0, _⟩ => show cc0_transform_1 (grid0.coords t) 0 * 1024 + 1 * e.val = e.val; rw [h]; show 0 * 1024 + 1 * e.val = e.val; omega
  | ⟨1, _⟩ => show cc0_transform_1 (grid0.coords t) 1 * 128 + 1 * d.val = t.val * 128 + d.val; rw [h, Nat.one_mul]; rfl

theorem blk_2 (t : Fin cfg0.N) (j : Fin 2048) (d : Fin 128) :
    blk0 V c 2 t (ix3 0 j d) = V c main_v12 (ix3 (⟨t.val, points t⟩ : Fin 8) j d) := by
  rw [blk_fetched V c 2 t (fetch0_2 t)]
  refine congrArg (V c main_v12) (funext fun a => Fin.ext ?_)
  have h := index_2 t
  match a with
  | ⟨0, _⟩ => show cc0_transform_2 (grid0.coords t) 0 * 1 + 1 * 0 = t.val; rw [h]; show t.val * 1 + 1 * 0 = t.val; omega
  | ⟨1, _⟩ => show cc0_transform_2 (grid0.coords t) 1 * 2048 + 1 * j.val = j.val; rw [h]; show 0 * 2048 + 1 * j.val = j.val; omega
  | ⟨2, _⟩ => show cc0_transform_2 (grid0.coords t) 2 * 128 + 1 * d.val = d.val; rw [h]; show 0 * 128 + 1 * d.val = d.val; omega

theorem blk_3 (t : Fin cfg0.N) (j : Fin 2048) (d : Fin 128) :
    blk0 V c 3 t (ix3 0 j d) = V c main_v20 (ix3 (⟨t.val, points t⟩ : Fin 8) j d) := by
  rw [blk_fetched V c 3 t (fetch0_3 t)]
  refine congrArg (V c main_v20) (funext fun a => Fin.ext ?_)
  have h := index_3 t
  match a with
  | ⟨0, _⟩ => show cc0_transform_3 (grid0.coords t) 0 * 1 + 1 * 0 = t.val; rw [h]; show t.val * 1 + 1 * 0 = t.val; omega
  | ⟨1, _⟩ => show cc0_transform_3 (grid0.coords t) 1 * 2048 + 1 * j.val = j.val; rw [h]; show 0 * 2048 + 1 * j.val = j.val; omega
  | ⟨2, _⟩ => show cc0_transform_3 (grid0.coords t) 2 * 128 + 1 * d.val = d.val; rw [h]; show 0 * 128 + 1 * d.val = d.val; omega

theorem blk_4 (t : Fin cfg0.N) (d : Fin 128) (n : Fin 1024) :
    blk0 V c 4 t (ix2 d n) = V c main_v24 (ix2 (⟨t.val * 128 + d.val, by have := points t; omega⟩ : Fin 1024) n) := by
  rw [blk_fetched V c 4 t (fetch0_4 t)]
  refine congrArg (V c main_v24) (funext fun a => Fin.ext ?_)
  have h := index_4 t
  match a with
  | ⟨0, _⟩ => show cc0_transform_4 (grid0.coords t) 0 * 128 + 1 * d.val = t.val * 128 + d.val; rw [h, Nat.one_mul]; rfl
  | ⟨1, _⟩ => show cc0_transform_4 (grid0.coords t) 1 * 1024 + 1 * n.val = n.val; rw [h]; show 0 * 1024 + 1 * n.val = n.val; omega

end Blocks

/-! ## A head, and the sum over a device's heads -/

section Heads

variable {X : Fin 2048 → Fin 1024 → EReal} {W : Fin 1024 → Fin 8192 → EReal} {K V : Fin 2048 → Fin 64 → Fin 128 → EReal}
  {O : Fin 8192 → Fin 1024 → EReal}
variable (hX : ∀ i e, Fin' (X i e)) (hW : ∀ e t, Fin' (W e t)) (hK : ∀ j h d, Fin' (K j h d))

include hX hW hK in
/-- A head's projected rows. -/
theorem head_apply (h : Fin 64) (b0 : Vec Ideal S2048x1024 .bf16) (b1 : Vec Ideal S1024x128 .bf16) (b2 b3 : Vec Ideal S1x2048x128 .bf16)
    (b4 : Vec Ideal S128x1024 .bf16) (h0 : ∀ i e, b0 (ix2 i e) = X i e) (h1 : ∀ e d, b1 (ix2 e d) = W e (col h d))
    (h2 : ∀ j d, b2 (ix3 0 j d) = K j h d) (h3 : ∀ j d, b3 (ix3 0 j d) = V j h d) (h4 : ∀ d n, b4 (ix2 d n) = O (col h d) n)
    (i : Fin 2048) (n : Fin 1024) :
    k0_pay3 (ctx (k0_pay1 b0 b1) b2 b3) b4 (ix2 i n) = ∑ d : Fin 128, attn X W K V h i d * O (col h d) n := by
  rw [headPay3_apply]
  refine Finset.sum_congr rfl fun d _ => ?_
  have ht : i.val / 256 < k0_t1_loop.trips := by rw [trips_eq]; omega
  have ho : origin ⟨i.val / 256, ht⟩ = min 12 (2 * (i.val / 256) - 1) * 128 := rfl
  rw [h4, ctx_apply _ _ _ i d ⟨i.val / 256, ht⟩ rfl,
    attn_span V hX hW hK h i d (origin ⟨i.val / 256, ht⟩) (origin_le _) (by omega) (by omega)]
  simp only [headPay1_apply, h0, h1, h2, h3]
  rfl

variable (m : (ℓ : Loc nD τ sig) → Buf (Elt Ideal) ℓ) (c : Dev nD)

/-- A device holds its part of the layer's arrays: all the rows and all the keys and values, its heads' columns of the query
    projection and its heads' rows of the output projection. -/
structure Holds (X : Fin 2048 → Fin 1024 → EReal) (W : Fin 1024 → Fin 8192 → EReal) (K V : Fin 2048 → Fin 64 → Fin 128 → EReal)
    (O : Fin 8192 → Fin 1024 → EReal) : Prop where
  rows : ∀ i e, arg m c main_arg0 (ix3 0 i e) = X i e
  cols : ∀ e (g : Fin 8) (d : Fin 128), arg m c main_arg1 (ix2 e (⟨g.val * 128 + d.val, by omega⟩ : Fin 1024)) = W e (col (head c g) d)
  keys : ∀ j h d, arg m c main_arg2 (ix4 0 j h d) = K j h d
  vals : ∀ j h d, arg m c main_arg3 (ix4 0 j h d) = V j h d
  outs : ∀ (g : Fin 8) (d : Fin 128) n, arg m c main_arg4 (ix2 (⟨g.val * 128 + d.val, by omega⟩ : Fin 1024) n) = O (col (head c g) d) n

variable (H : Holds m c X W K V O)

include hX hW hK H in
theorem point_apply (t : Fin cfg0.N) (i : Fin 2048) (n : Fin 1024) :
    k0_pay3 (ctx (k0_pay1 (blk0 (V1 m) c 0 t) (blk0 (V1 m) c 1 t)) (blk0 (V1 m) c 2 t) (blk0 (V1 m) c 3 t)) (blk0 (V1 m) c 4 t) (ix2 i n)
      = ∑ d : Fin 128, attn X W K V (head c ⟨t.val, points t⟩) i d * O (col (head c ⟨t.val, points t⟩) d) n :=
  head_apply hX hW hK (head c ⟨t.val, points t⟩) _ _ _ _ _
    (fun i e => (blk_0 (V1 m) c t i e).trans ((congrFun (v22_eq m c) _).trans ((flat_apply _ i e).trans (H.rows i e))))
    (fun e d => (blk_1 (V1 m) c t e d).trans ((congrFun (v23_eq m c) _).trans (H.cols e ⟨t.val, points t⟩ d)))
    (fun j d => (blk_2 (V1 m) c t j d).trans ((congrFun (v12_eq m c) _).trans ((heads_apply c _ _ j d).trans (H.keys j _ d))))
    (fun j d => (blk_3 (V1 m) c t j d).trans ((congrFun (v20_eq m c) _).trans ((heads_apply c _ _ j d).trans (H.vals j _ d))))
    (fun d n => (blk_4 (V1 m) c t d n).trans ((congrFun (v24_eq m c) _).trans (H.outs ⟨t.val, points t⟩ d n))) i n

theorem coords_succ : ∀ t : Fin cfg0.N, t.val ≠ 0 → ((grid0.coords t) 0).val ≠ 0 := by decide +kernel

include hX hW hK H in
theorem acc_apply (i : Fin 2048) (n : Fin 1024) (k : ℕ) (h : k < cfg0.N) :
    accAt (V1 m) c k h (ix2 i n) = ∑ g : Fin (k + 1), ∑ d : Fin 128,
      attn X W K V (head c ⟨g.val, lt_of_lt_of_le g.isLt (points ⟨k, h⟩)⟩) i d * O (col (head c ⟨g.val, lt_of_lt_of_le g.isLt (points ⟨k, h⟩)⟩) d) n := by
  induction k with
  | zero =>
    rw [Fin.sum_univ_one]
    exact point_apply hX hW hK m c H ⟨0, h⟩ i n
  | succ k ih =>
    rw [Fin.sum_univ_castSucc]
    have e : accAt (V1 m) c (k + 1) h = k0_pay4 (ctx (k0_pay1 (blk0 (V1 m) c 0 ⟨k + 1, h⟩) (blk0 (V1 m) c 1 ⟨k + 1, h⟩)) (blk0 (V1 m) c 2 ⟨k + 1, h⟩)
        (blk0 (V1 m) c 3 ⟨k + 1, h⟩)) (blk0 (V1 m) c 4 ⟨k + 1, h⟩) (accAt (V1 m) c k (Nat.lt_of_succ_lt h)) :=
      if_neg (coords_succ ⟨k + 1, h⟩ (Nat.succ_ne_zero k))
    rw [e, headPay4_apply]
    exact congrArg₂ (· + ·) (ih (Nat.lt_of_succ_lt h)) (point_apply hX hW hK m c H ⟨k + 1, h⟩ i n)

include hX hW hK H in
/-- A device's partial result. -/
theorem part_apply (i : Fin 2048) (n : Fin 1024) :
    part m c (ix2 i n) = ∑ g : Fin 8, ∑ d : Fin 128, attn X W K V (head c g) i d * O (col (head c g) d) n :=
  acc_apply hX hW hK m c H i n 7 _

end Heads

/-! ## The total -/

section

variable (m : (ℓ : Loc nD τ sig) → Buf (Elt Ideal) ℓ) (c : Dev nD)
  {X : Fin 2048 → Fin 1024 → EReal} {W : Fin 1024 → Fin 8192 → EReal} {K V : Fin 2048 → Fin 64 → Fin 128 → EReal} {O : Fin 8192 → Fin 1024 → EReal}

theorem v27_eq : V4 m (outs m) c main_v27 = broadcastInDim S1x2048x1024 ![1, 2] bcast_S2048x1024_S1x2048x1024_1_2 (totA (part m) : FVec Ideal S2048x1024 .f32) := by
  rw [← V3_v26 m c]
  show StableHlo.after _ (V3 m (outs m) c) _ = _
  after_results_simp

theorem row_of (x : FVec Ideal S2048x1024 .f32) (i : Fin 2048) (n : Fin 1024) :
    broadcastInDim S1x2048x1024 ![1, 2] bcast_S2048x1024_S1x2048x1024_1_2 x (ix3 0 i n) = x (ix2 i n) := by
  pointwise

theorem totA_apply (P : Fin 8 → Ix 2048 → EReal) (i : Ix 2048) : totA (F := Ideal) P i = ∑ d : Fin 8, P d i := total_sum P i

/-- Every device's result is the layer's. -/
theorem result_apply (hX : ∀ i e, Fin' (X i e)) (hW : ∀ e t, Fin' (W e t)) (hK : ∀ j h d, Fin' (K j h d)) (H : ∀ c, Holds m c X W K V O)
    (i : Fin 2048) (n : Fin 1024) : V4 m (outs m) c main_v27 (ix3 0 i n) = layer X W K V O i n := by
  refine (congrFun (v27_eq m c) _).trans ((row_of _ i n).trans ((totA_apply _ _).trans ?_))
  exact (Finset.sum_congr rfl fun d _ => part_apply hX hW hK m d (H d) i n).trans (layer_eq X W K V O i n).symm

end

end Cert.KernelIdealProof

end
-- ==== Proof.ReferenceValue.lean ====
/-
# The reference's result, element by element

The reference's run ends with a composed term of its five arguments. This module names the term's stages, reads each at an
index, and finds the layer's element there; and it restates the run with every counter at zero.
-/
module

public import proofs.«01_k».proof.Proof.Attention
public import proofs.«01_k».proof.Proof.Gen.ReferenceIdeal.Run
public import Idealize.ShloMosaic.Lib.Quiescent
public import Idealize.ShloMosaic.Lib.Pointwise
public import Idealize.ShloMosaic.Lib.Affine
public import Idealize.ShloMosaic.Lib.Routing.OpsOrder

@[expose] public section

noncomputable section

namespace Cert.ReferenceProof

open Cert.ReferenceIdeal Cert.ReferenceIdeal.Gen Cert.Attention
open Idealize.ShloMosaic Idealize.ShloMosaic.TcCoe Idealize.ShloMosaic.StableHlo Idealize.SL.Sem

variable (a0 : FVec Ideal S1x2048x1024 .f32) (a1 : FVec Ideal S1024x8192 .f32) (a2 a3 : FVec Ideal S1x2048x64x128 .f32)
  (a4 : FVec Ideal S8192x1024 .f32)

/-! ## The stages -/

def mask : IVec S2048x2048 1 :=
  cmpi .sle (absi (subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32))

def keep : IVec S2048 1 := Host.reduce IntOp.ori mask (constantI S_ 1 0#1) reducesTo_S2048x2048_S2048_d1 h_S_

def queries : FVec Ideal S1x2048x64x128 .f32 :=
  shapeCast _ (Host.dotGeneral (F := Ideal) dot_S1x2048x1024_S1024x8192_S1x2048x8192_2_0_01_1_n_n none a0 a1) shapeCasts_S1x2048x8192_S1x2048x64x128

def rawScores : FVec Ideal S1x64x2048x2048 .f32 :=
  mulf (Host.dotGeneral (F := Ideal) dot_S1x2048x64x128_S1x2048x64x128_S1x64x2048x2048_3_3_1_1_02_02 none (queries a0 a1) a2)
    (broadcastInDim S1x64x2048x2048 ![] bcast_S_S1x64x2048x2048 (constant (F := Ideal) S_ .f32 0x3DB504F3#32))

def scores : FVec Ideal S1x64x2048x2048 .f32 :=
  select (broadcastInDim S1x64x2048x2048 ![0, 1, 2, 3] bcast_S1x1x2048x2048_S1x64x2048x2048_0_1_2_3 (broadcastInDim S1x1x2048x2048 ![2, 3] bcast_S2048x2048_S1x1x2048x2048_2_3 mask))
    (rawScores a0 a1 a2) (broadcastInDim S1x64x2048x2048 ![] bcast_S_S1x64x2048x2048 (id (constant (F := Ideal) S_ .f32 0xFF800000#32)))

def largest : FVec Ideal S1x64x2048 .f32 :=
  Host.reduce FloatOps.maximumf (scores a0 a1 a2) (constant (F := Ideal) S_ .f32 0xFF800000#32) reducesTo_S1x64x2048x2048_S1x64x2048_d3 h_S_

def weights : FVec Ideal S1x64x2048x2048 .f32 :=
  Host.exp (subf (scores a0 a1 a2) (broadcastInDim S1x64x2048x2048 ![0, 1, 2, 3] bcast_S1x64x2048x1_S1x64x2048x2048_0_1_2_3
    (broadcastInDim S1x64x2048x1 ![0, 1, 2] bcast_S1x64x2048_S1x64x2048x1_0_1_2 (largest a0 a1 a2))))

def weightSum : FVec Ideal S1x64x2048 .f32 :=
  Host.reduceAdd (weights a0 a1 a2) (constant (F := Ideal) S_ .f32 0x00000000#32) reducesTo_S1x64x2048x2048_S1x64x2048_d3 h_S_

def denom : FVec Ideal S1x64x2048x1 .f32 :=
  select (broadcastInDim S1x64x2048x1 ![0, 1, 2, 3] bcast_S1x1x2048x1_S1x64x2048x1_0_1_2_3 (broadcastInDim S1x1x2048x1 ![2] bcast_S2048_S1x1x2048x1_2 keep))
    (broadcastInDim S1x64x2048x1 ![0, 1, 2] bcast_S1x64x2048_S1x64x2048x1_0_1_2 (weightSum a0 a1 a2))
    (broadcastInDim S1x64x2048x1 ![] bcast_S_S1x64x2048x1 (id (constant (F := Ideal) S_ .f32 0x3F800000#32)))

def shares : FVec Ideal S1x64x2048x2048 .f32 :=
  select (broadcastInDim S1x64x2048x2048 ![0, 1, 2, 3] bcast_S1x1x2048x1_S1x64x2048x2048_0_1_2_3 (broadcastInDim S1x1x2048x1 ![2] bcast_S2048_S1x1x2048x1_2 keep))
    (Host.divf (weights a0 a1 a2) (broadcastInDim S1x64x2048x2048 ![0, 1, 2, 3] bcast_S1x64x2048x1_S1x64x2048x2048_0_1_2_3 (denom a0 a1 a2)))
    (broadcastInDim S1x64x2048x2048 ![] bcast_S_S1x64x2048x2048 (id (constant (F := Ideal) S_ .f32 0x00000000#32)))

def rows : FVec Ideal S1x2048x8192 .f32 :=
  shapeCast _ (transpose S1x2048x64x128 [0, 3, 1, 2] (Host.dotGeneral (F := Ideal) dot_S1x2048x64x128_S1x64x2048x2048_S1x64x128x2048_1_3_3_2_02_01 none a3 (shares a0 a1 a2))
    transposes_S1x64x128x2048_S1x2048x64x128_0_3_1_2) shapeCasts_S1x2048x64x128_S1x2048x8192

def refOut : FVec Ideal S1x2048x1024 .f32 :=
  Host.dotGeneral (F := Ideal) dot_S1x2048x8192_S8192x1024_S1x2048x1024_2_0_01_1_n_n none (rows a0 a1 a2 a3) a4

theorem res_eq (m : (ℓ : Loc nD τ sig) → Buf (Elt Ideal) ℓ) (c : Dev nD) :
    Value.res_out0 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_out0 Value.res_main_v34
  rfl

/-! ## The stages at an index -/

theorem mask_apply (i j : Fin 2048) : mask (ix2 i j) = 1#1 ↔ near i.val j.val := by
  unfold mask
  pointwise
  exact near_word i.isLt j.isLt

theorem keep_apply (i : Fin 2048) : keep (ix1 i) = 1#1 := by
  unfold keep
  pointwise
  rw [Routing.fold_ori]
  exact ⟨i, Finset.mem_univ _, (mask_apply i i).mpr ⟨by omega, by omega⟩⟩

theorem queries_apply (i : Fin 2048) (h : Fin 64) (d : Fin 128) :
    queries a0 a1 (ix4 0 i h d) = query (fun i e => a0 (ix3 0 i e)) (fun e t => a1 (ix2 e t)) h i d := by
  unfold queries query col
  pointwise

section Select

variable (mk : IVec S2048x2048 1) (kp : IVec S2048 1) (qs : FVec Ideal S1x2048x64x128 .f32) (sc w : FVec Ideal S1x64x2048x2048 .f32)
  (den : FVec Ideal S1x64x2048x1 .f32) (ws : FVec Ideal S1x64x2048 .f32) (h : Fin 64) (i j : Fin 2048)

theorem raw_read : mulf (Host.dotGeneral (F := Ideal) dot_S1x2048x64x128_S1x2048x64x128_S1x64x2048x2048_3_3_1_1_02_02 none qs a2)
    (broadcastInDim S1x64x2048x2048 ![] bcast_S_S1x64x2048x2048 (constant (F := Ideal) S_ .f32 0x3DB504F3#32)) (ix4 0 h i j)
      = (∑ d, qs (ix4 0 i h d) * a2 (ix4 0 j h d)) * scale := by
  unfold scale
  pointwise

theorem mask_read : broadcastInDim S1x64x2048x2048 ![0, 1, 2, 3] bcast_S1x1x2048x2048_S1x64x2048x2048_0_1_2_3
    (broadcastInDim S1x1x2048x2048 ![2, 3] bcast_S2048x2048_S1x1x2048x2048_2_3 mk) (ix4 0 h i j) = mk (ix2 i j) := by
  pointwise

theorem keep_read1 : broadcastInDim S1x64x2048x1 ![0, 1, 2, 3] bcast_S1x1x2048x1_S1x64x2048x1_0_1_2_3
    (broadcastInDim S1x1x2048x1 ![2] bcast_S2048_S1x1x2048x1_2 kp) (ix4 0 h i 0) = kp (ix1 i) := by
  pointwise

theorem keep_read : broadcastInDim S1x64x2048x2048 ![0, 1, 2, 3] bcast_S1x1x2048x1_S1x64x2048x2048_0_1_2_3
    (broadcastInDim S1x1x2048x1 ![2] bcast_S2048_S1x1x2048x1_2 kp) (ix4 0 h i j) = kp (ix1 i) := by
  pointwise

theorem row_read1 : broadcastInDim S1x64x2048x1 ![0, 1, 2] bcast_S1x64x2048_S1x64x2048x1_0_1_2 ws (ix4 0 h i 0) = ws (ix3 0 h i) := by
  pointwise

theorem row_read : broadcastInDim S1x64x2048x2048 ![0, 1, 2, 3] bcast_S1x64x2048x1_S1x64x2048x2048_0_1_2_3 den (ix4 0 h i j) = den (ix4 0 h i 0) := by
  pointwise

theorem largest_read (init : FVec Ideal S_ .f32) (h0 : ∀ x, init x = ⊥) :
    Host.reduce FloatOps.maximumf sc init reducesTo_S1x64x2048x2048_S1x64x2048_d3 h_S_ (ix3 0 h i) = top fun j => sc (ix4 0 h i j) := by
  unfold top
  pointwise
  rw [h0]

theorem denom_read (h1 : kp (ix1 i) = 1#1) (o : FVec Ideal S1x64x2048x1 .f32) :
    select (broadcastInDim S1x64x2048x1 ![0, 1, 2, 3] bcast_S1x1x2048x1_S1x64x2048x1_0_1_2_3 (broadcastInDim S1x1x2048x1 ![2] bcast_S2048_S1x1x2048x1_2 kp))
      (broadcastInDim S1x64x2048x1 ![0, 1, 2] bcast_S1x64x2048_S1x64x2048x1_0_1_2 ws) o (ix4 0 h i 0) = ws (ix3 0 h i) :=
  (select_one ((keep_read1 kp h i).trans h1) _ _).trans (row_read1 ws h i)

theorem shares_read (h1 : kp (ix1 i) = 1#1) (o : FVec Ideal S1x64x2048x2048 .f32) :
    select (broadcastInDim S1x64x2048x2048 ![0, 1, 2, 3] bcast_S1x1x2048x1_S1x64x2048x2048_0_1_2_3 (broadcastInDim S1x1x2048x1 ![2] bcast_S2048_S1x1x2048x1_2 kp))
      (Host.divf w (broadcastInDim S1x64x2048x2048 ![0, 1, 2, 3] bcast_S1x64x2048x1_S1x64x2048x2048_0_1_2_3 den)) o (ix4 0 h i j)
      = Ideal.div (w (ix4 0 h i j)) (den (ix4 0 h i 0)) :=
  (select_one ((keep_read kp h i j).trans h1) _ _).trans (congrArg (Ideal.div (w (ix4 0 h i j))) (row_read den h i j))

theorem total_read : Host.reduceAdd w (constant (F := Ideal) S_ .f32 0x00000000#32) reducesTo_S1x64x2048x2048_S1x64x2048_d3 h_S_ (ix3 0 h i)
    = ∑ j, w (ix4 0 h i j) := by
  pointwise

end Select

section

variable (h : Fin 64) (i j : Fin 2048)

theorem scores_apply : scores a0 a1 a2 (ix4 0 h i j)
    = score (fun i e => a0 (ix3 0 i e)) (fun e t => a1 (ix2 e t)) (fun j h d => a2 (ix4 0 j h d)) h i j := by
  refine (congrArg (fun b => Scalar.select b _ _) (mask_read mask h i j)).trans ((select_iff (mask_apply i j) _ _).trans ?_)
  unfold score
  congr 1
  · refine (raw_read a2 (queries a0 a1) h i j).trans ?_
    simp only [queries_apply]

theorem largest_apply : largest a0 a1 a2 (ix3 0 h i) = top fun j => scores a0 a1 a2 (ix4 0 h i j) :=
  largest_read _ h i _ fun _ => neg_inf

theorem weights_apply : weights a0 a1 a2 (ix4 0 h i j) = Ideal.exp (scores a0 a1 a2 (ix4 0 h i j) - largest a0 a1 a2 (ix3 0 h i)) :=
  congrArg (fun y => Ideal.exp (scores a0 a1 a2 (ix4 0 h i j) - y)) ((row_read _ h i j).trans (row_read1 _ h i))

theorem weightSum_apply : weightSum a0 a1 a2 (ix3 0 h i) = ∑ j, weights a0 a1 a2 (ix4 0 h i j) := total_read _ h i

theorem denom_apply : denom a0 a1 a2 (ix4 0 h i 0) = weightSum a0 a1 a2 (ix3 0 h i) := denom_read keep _ h i (keep_apply i) _

theorem shares_apply : shares a0 a1 a2 (ix4 0 h i j) = Ideal.div (weights a0 a1 a2 (ix4 0 h i j)) (weightSum a0 a1 a2 (ix3 0 h i)) :=
  (shares_read keep _ _ h i j (keep_apply i) _).trans (congrArg (Ideal.div (weights a0 a1 a2 (ix4 0 h i j))) (denom_apply a0 a1 a2 h i))

end

section Product

variable (sh : FVec Ideal S1x64x2048x2048 .f32) (rw' : FVec Ideal S1x2048x8192 .f32) (i : Fin 2048)

theorem rows_read (t : Fin 8192) :
    shapeCast S1x2048x8192 (transpose S1x2048x64x128 [0, 3, 1, 2] (Host.dotGeneral (F := Ideal) dot_S1x2048x64x128_S1x64x2048x2048_S1x64x128x2048_1_3_3_2_02_01 none a3 sh)
      transposes_S1x64x128x2048_S1x2048x64x128_0_3_1_2) shapeCasts_S1x2048x64x128_S1x2048x8192 (ix3 0 i t)
      = ∑ j, a3 (ix4 0 j ⟨t.val / 128, by omega⟩ ⟨t.val % 128, Nat.mod_lt _ (by decide)⟩) * sh (ix4 0 ⟨t.val / 128, by omega⟩ i j) := by
  pointwise

theorem out_read (n : Fin 1024) :
    Host.dotGeneral (F := Ideal) dot_S1x2048x8192_S8192x1024_S1x2048x1024_2_0_01_1_n_n none rw' a4 (ix3 0 i n) = ∑ t, rw' (ix3 0 i t) * a4 (ix2 t n) := by
  pointwise

end Product

/-- The reference's result is the layer's. -/
theorem refOut_apply (i : Fin 2048) (n : Fin 1024) :
    refOut a0 a1 a2 a3 a4 (ix3 0 i n)
      = layer (fun i e => a0 (ix3 0 i e)) (fun e t => a1 (ix2 e t)) (fun j h d => a2 (ix4 0 j h d)) (fun j h d => a3 (ix4 0 j h d)) (fun t n => a4 (ix2 t n)) i n := by
  refine (out_read a4 _ i n).trans ?_
  unfold layer
  refine Finset.sum_congr rfl fun t _ => congrArg (· * a4 (ix2 t n)) ?_
  refine (rows_read a3 _ i t).trans ?_
  unfold attn soft
  refine Finset.sum_congr rfl fun j _ => ?_
  simp only [shares_apply, weightSum_apply, weights_apply, largest_apply, scores_apply]
  rw [mul_comm]

/-- Every execution of the reference ends with its result, its arguments as they were, and every counter at zero. -/
theorem run_main (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v34) = Value.res_out0 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run defs _ _).mono (fun r h => ⟨h, sem_eq_zero_of_no_sems (by decide) r.2⟩) (Value.run m ρ)

end Cert.ReferenceProof

end
-- ==== Proof.Finite.lean ====
/-
# The precondition, read back

The precondition says of a device's arguments that the rows, the query projection and the keys are finite: every element's
absolute value lies below plus infinity.
-/
module

public import proofs.«01_k».proof.Pre_finite_scores_KernelIdeal
public import proofs.«01_k».proof.Pre_finite_scores_ReferenceIdeal
public import proofs.«01_k».proof.Proof.Attention
public import Idealize.ShloMosaic.Lib.ReduceAll

@[expose] public section

noncomputable section

namespace Cert.Finite

open Idealize.ShloMosaic Cert.Attention

theorem facts_k : Cert.Pre_finite_scores_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x64x128 := by decide
  reducesTo_S1x2048x64x128_S_d0_1_2_3 := by decide

theorem facts_r : Cert.Pre_finite_scores_ReferenceIdeal.Facts where
  bcast_S_S1x2048x1024 := by decide
  reducesTo_S1x2048x1024_S_d0_1_2 := by decide
  h_S_ := by decide
  bcast_S_S1024x8192 := by decide
  reducesTo_S1024x8192_S_d0_1 := by decide
  bcast_S_S1x2048x64x128 := by decide
  reducesTo_S1x2048x64x128_S_d0_1_2_3 := by decide

/-- The shape with no axis. -/
abbrev S0 : Shape := ⟨0, ![]⟩

instance : Subsingleton S0.Idx := ⟨fun _ _ => funext fun a => a.elim0⟩

/-- An array whose every absolute value compares below plus infinity is finite. -/
theorem finite_of_all {s : Shape} {axes : List (Fin s.rank)} (x : FVec Ideal s .f32) (hb : S0.BroadcastsInDim s (![] : Fin 0 → Fin s.rank))
    (hr : s.ReducesTo axes S0) (h0 : 0 < S0.numel)
    (e : Host.reduce IntOp.andi (cmpf .olt (Host.absf x) (broadcastInDim s ![] hb (constant (F := Ideal) S0 .f32 0x7F800000#32))) (constantI S0 1 1#1) hr h0
      (Shape.Idx.first h0) = 1#1) (i : s.Idx) : Fin' (x i) := by
  have h := Host.reduce_andi_all _ _ hr h0 _ e i
  have h1 : BitVec.ofBool (decide (max (x i) (-(x i)) < Ideal.ofBits .f32 0x7F800000#32)) = 1#1 := h
  rw [pos_inf] at h1
  refine fin_of_abs ?_
  by_contra hn
  rw [decide_eq_false hn] at h1
  exact absurd h1 (by decide)

theorem finite_args [Cert.Pre_finite_scores_KernelIdeal.Facts] (a0 : FVec Ideal ⟨3, ![1, 2048, 1024]⟩ .f32) (a1 : FVec Ideal ⟨2, ![1024, 1024]⟩ .f32)
    (a2 a3 : FVec Ideal ⟨4, ![1, 2048, 64, 128]⟩ .f32) (a4 : FVec Ideal ⟨2, ![1024, 1024]⟩ .f32)
    (h : Cert.Pre_finite_scores_KernelIdeal.fn (F := Ideal) a0 a1 a2 a3 a4 = fun _ => 1#1) :
    (∀ i, Fin' (a0 i)) ∧ (∀ i, Fin' (a1 i)) ∧ ∀ i, Fin' (a2 i) := by
  have e := congrFun h (Shape.Idx.first (s := S0) (by decide))
  dsimp only [Cert.Pre_finite_scores_KernelIdeal.fn] at e
  obtain ⟨e1, e2⟩ := IntOp.andi_eq_one.mp e
  obtain ⟨e3, e4⟩ := IntOp.andi_eq_one.mp e1
  exact ⟨finite_of_all a0 _ _ _ e3, finite_of_all a1 _ _ _ e4, finite_of_all a2 _ _ _ e2⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import proofs.«01_k».proof.Proof.KernelRun
public import proofs.«01_k».proof.Proof.KernelIdealRun
public import proofs.«01_k».proof.Proof.KernelIdealValue
public import proofs.«01_k».proof.Proof.ReferenceValue
public import proofs.«01_k».proof.Proof.Finite
public import Idealize.ShloMosaic.Init

@[expose] public section

noncomputable section

namespace Cert.Proof

open Idealize.ShloMosaic Idealize.ShloMosaic.TcCoe Idealize.SL.Sem Cert.Kernel Cert.Attention

theorem frame_k : Cert.quiescent_Kernel := by
  intro m ρ _
  exact (θ_run Cert.Kernel.defs _ _).mono (fun _ h => ⟨fun c => (h.1 c).2, h.2⟩) (Cert.KernelProof.run_main (F := Bits) m ρ)

theorem frame_ki : Cert.quiescent_KernelIdeal := by
  intro m ρ _
  exact (θ_run Cert.KernelIdeal.defs _ _).mono (fun _ h => ⟨fun c => (h.1 c).2, h.2⟩) (Cert.KernelIdealProof.run_main (F := Ideal) m ρ)

theorem frame_ri : Cert.quiescent_ReferenceIdeal := by
  intro m ρ _
  exact (θ_run Cert.ReferenceIdeal.defs _ _).mono (fun _ h => ⟨fun c => (h.1 c).2, h.2⟩) (Cert.ReferenceProof.run_main m ρ)

/-- Column `t` of the 8192 is a column of the block of the device that holds it. -/
theorem block_col (c : Fin 8) (a1 : FVec Ideal ⟨2, ![1024, 8192]⟩ .f32) (h : Layout.Tiles ⟨2, ![1024, 1024]⟩ ⟨2, ![1024, 8192]⟩ 1 8)
    (e : Fin 1024) (l : Fin 1024) (t : Fin 8192) (ht : t.val = c.val * 1024 + l.val) :
    Layout.block ⟨2, ![1024, 1024]⟩ ⟨2, ![1024, 8192]⟩ 1 8 c a1 h (ix2 e l) = a1 (ix2 e t) := by
  rw [Layout.block_apply]
  refine congrArg a1 (funext fun a => Fin.ext ?_)
  match a with
  | ⟨0, _⟩ => exact (Layout.idx_cols_val h c (ix2 e l)).1
  | ⟨1, _⟩ => exact (Layout.idx_cols_val h c (ix2 e l)).2.trans ht.symm

/-- And row `t` a row of its block. -/
theorem block_row (c : Fin 8) (a4 : FVec Ideal ⟨2, ![8192, 1024]⟩ .f32) (h : Layout.Tiles ⟨2, ![1024, 1024]⟩ ⟨2, ![8192, 1024]⟩ 0 8)
    (l : Fin 1024) (n : Fin 1024) (t : Fin 8192) (ht : t.val = c.val * 1024 + l.val) :
    Layout.block ⟨2, ![1024, 1024]⟩ ⟨2, ![8192, 1024]⟩ 0 8 c a4 h (ix2 l n) = a4 (ix2 t n) := by
  rw [Layout.block_apply]
  refine congrArg a4 (funext fun a => Fin.ext ?_)
  match a with
  | ⟨0, _⟩ => exact (Layout.idx_rows_val h c (ix2 l n)).1.trans ht.symm
  | ⟨1, _⟩ => exact (Layout.idx_rows_val h c (ix2 l n)).2

section

variable (a0 : FVec Ideal ⟨3, ![1, 2048, 1024]⟩ .f32) (a1 : FVec Ideal ⟨2, ![1024, 8192]⟩ .f32) (a2 a3 : FVec Ideal ⟨4, ![1, 2048, 64, 128]⟩ .f32)
  (a4 : FVec Ideal ⟨2, ![8192, 1024]⟩ .f32) (h1 : Layout.Tiles ⟨2, ![1024, 1024]⟩ ⟨2, ![1024, 8192]⟩ 1 8)
  (h4 : Layout.Tiles ⟨2, ![1024, 1024]⟩ ⟨2, ![8192, 1024]⟩ 0 8)
  (m : (ℓ : Loc Cert.KernelIdeal.nD Cert.KernelIdeal.τ Cert.KernelIdeal.sig) → Buf (Elt Ideal) ℓ)

/-- Each device's arguments are its parts of the whole arrays. -/
structure Parts (c : Dev Cert.KernelIdeal.nD) : Prop where
  eq0 : Cert.KernelIdealProof.arg m c Cert.KernelIdeal.main_arg0 = a0
  eq1 : Cert.KernelIdealProof.arg m c Cert.KernelIdeal.main_arg1 = Layout.block ⟨2, ![1024, 1024]⟩ ⟨2, ![1024, 8192]⟩ 1 8 c a1 h1
  eq2 : Cert.KernelIdealProof.arg m c Cert.KernelIdeal.main_arg2 = a2
  eq3 : Cert.KernelIdealProof.arg m c Cert.KernelIdeal.main_arg3 = a3
  eq4 : Cert.KernelIdealProof.arg m c Cert.KernelIdeal.main_arg4 = Layout.block ⟨2, ![1024, 1024]⟩ ⟨2, ![8192, 1024]⟩ 0 8 c a4 h4

theorem holds_of (c : Dev Cert.KernelIdeal.nD) (H : Parts a0 a1 a2 a3 a4 h1 h4 m c) :
    Cert.KernelIdealProof.Holds m c (fun i e => a0 (ix3 0 i e)) (fun e t => a1 (ix2 e t)) (fun j h d => a2 (ix4 0 j h d)) (fun j h d => a3 (ix4 0 j h d))
      (fun t n => a4 (ix2 t n)) where
  rows i e := congrFun H.eq0 _
  cols e g d := (congrFun H.eq1 _).trans (block_col c a1 h1 e _ _ (by
    show (c.val * 8 + g.val) * 128 + d.val = c.val * 1024 + (g.val * 128 + d.val); omega))
  keys j h d := congrFun H.eq2 _
  vals j h d := congrFun H.eq3 _
  outs g d n := (congrFun H.eq4 _).trans (block_row c a4 h4 _ n _ (by
    show (c.val * 8 + g.val) * 128 + d.val = c.val * 1024 + (g.val * 128 + d.val); omega))

/-- Finite parts are parts of finite arrays, and so every device's result is the reference's. -/
theorem result_eq [Cert.Pre_finite_scores_KernelIdeal.Facts] (hpre : Cert.Pre_KernelIdeal_finite_scores_KernelIdeal m)
    (H : ∀ c, Parts a0 a1 a2 a3 a4 h1 h4 m c) (c : Dev Cert.KernelIdeal.nD) :
    Cert.KernelIdeal.Gen.V4 m (Cert.KernelIdealProof.outs m) c Cert.KernelIdeal.main_v27 = Cert.ReferenceProof.refOut a0 a1 a2 a3 a4 := by
  have hfin := fun c => Cert.Finite.finite_args _ _ _ _ _ (hpre c)
  have hX : ∀ (i : Fin 2048) (e : Fin 1024), Fin' (a0 (ix3 0 i e)) := fun i e => by
    have h := (hfin 0).1 (ix3 0 i e); rwa [show m _ = a0 from (H 0).eq0] at h
  have hK : ∀ (j : Fin 2048) (h : Fin 64) (d : Fin 128), Fin' (a2 (ix4 0 j h d)) := fun j h d => by
    have h := (hfin 0).2.2 (ix4 0 j h d); rwa [show m _ = a2 from (H 0).eq2] at h
  have hW : ∀ (e : Fin 1024) (t : Fin 8192), Fin' (a1 (ix2 e t)) := fun e t => by
    have h := (hfin (⟨t.val / 1024, by omega⟩ : Fin 8)).2.1 (ix2 e (⟨t.val % 1024, Nat.mod_lt _ (by decide)⟩ : Fin 1024))
    rw [show m _ = _ from (H (⟨t.val / 1024, by omega⟩ : Fin 8)).eq1,
      block_col (⟨t.val / 1024, by omega⟩ : Fin 8) a1 h1 e _ t (by show t.val = t.val / 1024 * 1024 + t.val % 1024; omega)] at h
    exact h
  funext y
  obtain ⟨z, i, n, rfl⟩ : ∃ z i n, y = ix3 z i n := ⟨y 0, y 1, y 2, eq_ix3 y⟩
  obtain rfl : z = 0 := Subsingleton.elim _ _
  exact (Cert.KernelIdealProof.result_apply m c hX hW hK (fun c => holds_of a0 a1 a2 a3 a4 h1 h4 m c (H c)) i n).trans
    (Cert.ReferenceProof.refOut_apply a0 a1 a2 a3 a4 i n).symm

end

theorem alg [Cert.Pre_finite_scores_KernelIdeal.Facts] : Cert.algebraic_KernelIdeal_ReferenceIdeal_pre_finite_scores_KernelIdeal := by
  intro m ρ m' ρ' hpre hag
  refine ⟨Cert.ReferenceIdeal.Value.res_out0 m' 0, ?_, ?_⟩
  · refine (θ_run Cert.KernelIdeal.defs _ _).mono (fun _ h c => ⟨(h.1 c).1.trans ?_, (h.1 c).2⟩) (Cert.KernelIdealProof.run_main (F := Ideal) m ρ)
    exact (result_eq _ _ _ _ _ _ _ m hpre (fun c => ⟨(hag c).1, (hag c).2.1, (hag c).2.2.1, (hag c).2.2.2.1, (hag c).2.2.2.2⟩) c).trans
      (Cert.ReferenceProof.res_eq m' 0).symm
  · exact (θ_run Cert.ReferenceIdeal.defs _ _).mono (fun _ h => h.1 0) (Cert.ReferenceProof.run_main m' ρ')

theorem claim : Cert.Claim := ⟨Cert.Kernel.Gen.facts, Cert.KernelIdeal.Gen.facts, Cert.ReferenceIdeal.Gen.facts, Cert.Finite.facts_k, Cert.Finite.facts_r,
  frame_k, frame_ki, fun m ρ _ => frame_ki m ρ trivial, frame_ri, fun m ρ _ => frame_ri m ρ trivial,
  IdealRules.named_const.statement Cert.KernelIdeal.κ "mask" .f32 0xCE6E6B28#32 ⊥ rfl,
  @alg Cert.Finite.facts_k⟩

end Cert.Proof

end
